-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![512, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![512, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2048x512 : Shape := ⟨2, ![2048, 512]⟩
abbrev S512x2048 : Shape := ⟨2, ![512, 2048]⟩
abbrev S8x64x2048 : Shape := ⟨3, ![8, 64, 2048]⟩
abbrev S8 : Shape := ⟨1, ![8]⟩
abbrev S_ : Shape := ⟨0, ![]⟩
abbrev S1x64x2048 : Shape := ⟨3, ![1, 64, 2048]⟩
abbrev S1 : Shape := ⟨1, ![1]⟩
abbrev S512x512 : Shape := ⟨2, ![512, 512]⟩

abbrev nBuf : Space → Nat
  | .hbm => 8
  | .vmem => 19
  | .smem => 0
  | _ => 0

abbrev bufTy : (tb : Table) → Fin (tcTables nBuf tb) → BufTy
  | .hbm, ⟨0, _⟩ => ⟨S64x2048, .f32⟩
  | .hbm, ⟨1, _⟩ => ⟨S2048x4096, .bf16⟩
  | .hbm, ⟨2, _⟩ => ⟨S4096x2048, .bf16⟩
  | .hbm, ⟨3, _⟩ => ⟨S2048x4096, .bf16⟩
  | .hbm, ⟨4, _⟩ => ⟨S4096x2048, .bf16⟩
  | .hbm, ⟨5, _⟩ => ⟨S2048x4096, .bf16⟩
  | .hbm, ⟨6, _⟩ => ⟨S4096x2048, .bf16⟩
  | .hbm, ⟨7, _⟩ => ⟨S64x2048, .f32⟩
  | .local _ .vmem, ⟨0, _⟩ => ⟨S64x2048, .f32⟩
  | .local _ .vmem, ⟨1, _⟩ => ⟨S2048x512, .bf16⟩
  | .local _ .vmem, ⟨2, _⟩ => ⟨S2048x512, .bf16⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S64x2048, .f32⟩
  | .local _ .vmem, ⟨14, _⟩ => ⟨S64x2048, .f32⟩
  | .local _ .vmem, ⟨15, _⟩ => ⟨S8x64x2048, .bf16⟩
  | .local _ .vmem, ⟨16, _⟩ => ⟨S512x2048, .f32⟩
  | .local _ .vmem, ⟨17, _⟩ => ⟨S8x64x2048, .bf16⟩
  | .local _ .vmem, ⟨18, _⟩ => ⟨S8x64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev barrier0 : Sem sig := 0

abbrev nD : Nat := 8
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v29 : BitVec 32 := Scalar.addi v2 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c1_i32_21 : BitVec 32 := 1#32
  let v40 : BitVec 32 := Scalar.muli v39 c1_i32_21
  let v41 : BitVec 32 := Scalar.addi c0_i32_22 v40
  v41.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_23 : BitVec 32 := 2#32
  let v42 : BitVec 32 := Scalar.addi v2 c2_i32_23
  let c8_i32_24 : BitVec 32 := 8#32
  let c0_i32_25 : BitVec 32 := 0#32
  let v43 : BitVec 1 := Scalar.cmpi .eq c8_i32_24 c0_i32_25
  let c1_i32_26 : BitVec 32 := 1#32
  let v44 : BitVec 32 := Scalar.select v43 c1_i32_26 c8_i32_24
  let v45 : BitVec 32 := Scalar.remsi v42 v44
  let c0_i32_28 : BitVec 32 := 0#32
  let v47 : BitVec 1 := Scalar.cmpi .slt v45 c0_i32_28
  let c0_i32_29 : BitVec 32 := 0#32
  let v48 : BitVec 1 := Scalar.cmpi .slt v44 c0_i32_29
  let v49 : BitVec 1 := Scalar.xori v47 v48
  let c0_i32_27 : BitVec 32 := 0#32
  let v46 : BitVec 1 := Scalar.cmpi .ne v45 c0_i32_27
  let v50 : BitVec 1 := Scalar.andi v49 v46
  let v51 : BitVec 32 := Scalar.addi v45 v44
  let v52 : BitVec 32 := Scalar.select v50 v51 v45
  let c1_i32_31 : BitVec 32 := 1#32
  let v53 : BitVec 32 := Scalar.muli v52 c1_i32_31
  let v54 : BitVec 32 := Scalar.addi c0_i32_32 v53
  v54.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v55 : BitVec 32 := Scalar.addi v2 c3_i32
  let c8_i32_33 : BitVec 32 := 8#32
  let c0_i32_34 : BitVec 32 := 0#32
  let v56 : BitVec 1 := Scalar.cmpi .eq c8_i32_33 c0_i32_34
  let c1_i32_35 : BitVec 32 := 1#32
  let v57 : BitVec 32 := Scalar.select v56 c1_i32_35 c8_i32_33
  let v58 : BitVec 32 := Scalar.remsi v55 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let c1_i32_40 : BitVec 32 := 1#32
  let v66 : BitVec 32 := Scalar.muli v65 c1_i32_40
  let v67 : BitVec 32 := Scalar.addi c0_i32_41 v66
  v67.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v68 : BitVec 32 := Scalar.addi v2 c4_i32
  let c8_i32_42 : BitVec 32 := 8#32
  let c0_i32_43 : BitVec 32 := 0#32
  let v69 : BitVec 1 := Scalar.cmpi .eq c8_i32_42 c0_i32_43
  let c1_i32_44 : BitVec 32 := 1#32
  let v70 : BitVec 32 := Scalar.select v69 c1_i32_44 c8_i32_42
  let v71 : BitVec 32 := Scalar.remsi v68 v70
  let c0_i32_46 : BitVec 32 := 0#32
  let v73 : BitVec 1 := Scalar.cmpi .slt v71 c0_i32_46
  let c0_i32_47 : BitVec 32 := 0#32
  let v74 : BitVec 1 := Scalar.cmpi .slt v70 c0_i32_47
  let v75 : BitVec 1 := Scalar.xori v73 v74
  let c0_i32_45 : BitVec 32 := 0#32
  let v72 : BitVec 1 := Scalar.cmpi .ne v71 c0_i32_45
  let v76 : BitVec 1 := Scalar.andi v75 v72
  let v77 : BitVec 32 := Scalar.addi v71 v70
  let v78 : BitVec 32 := Scalar.select v76 v77 v71
  let c1_i32_49 : BitVec 32 := 1#32
  let v79 : BitVec 32 := Scalar.muli v78 c1_i32_49
  let v80 : BitVec 32 := Scalar.addi c0_i32_50 v79
  v80.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v81 : BitVec 32 := Scalar.addi v2 c5_i32
  let c8_i32_51 : BitVec 32 := 8#32
  let c0_i32_52 : BitVec 32 := 0#32
  let v82 : BitVec 1 := Scalar.cmpi .eq c8_i32_51 c0_i32_52
  let c1_i32_53 : BitVec 32 := 1#32
  let v83 : BitVec 32 := Scalar.select v82 c1_i32_53 c8_i32_51
  let v84 : BitVec 32 := Scalar.remsi v81 v83
  let c0_i32_55 : BitVec 32 := 0#32
  let v86 : BitVec 1 := Scalar.cmpi .slt v84 c0_i32_55
  let c0_i32_56 : BitVec 32 := 0#32
  let v87 : BitVec 1 := Scalar.cmpi .slt v83 c0_i32_56
  let v88 : BitVec 1 := Scalar.xori v86 v87
  let c0_i32_54 : BitVec 32 := 0#32
  let v85 : BitVec 1 := Scalar.cmpi .ne v84 c0_i32_54
  let v89 : BitVec 1 := Scalar.andi v88 v85
  let v90 : BitVec 32 := Scalar.addi v84 v83
  let v91 : BitVec 32 := Scalar.select v89 v90 v84
  let c1_i32_58 : BitVec 32 := 1#32
  let v92 : BitVec 32 := Scalar.muli v91 c1_i32_58
  let v93 : BitVec 32 := Scalar.addi c0_i32_59 v92
  v93.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v94 : BitVec 32 := Scalar.addi v2 c6_i32
  let c8_i32_60 : BitVec 32 := 8#32
  let c0_i32_61 : BitVec 32 := 0#32
  let v95 : BitVec 1 := Scalar.cmpi .eq c8_i32_60 c0_i32_61
  let c1_i32_62 : BitVec 32 := 1#32
  let v96 : BitVec 32 := Scalar.select v95 c1_i32_62 c8_i32_60
  let v97 : BitVec 32 := Scalar.remsi v94 v96
  let c0_i32_64 : BitVec 32 := 0#32
  let v99 : BitVec 1 := Scalar.cmpi .slt v97 c0_i32_64
  let c0_i32_65 : BitVec 32 := 0#32
  let v100 : BitVec 1 := Scalar.cmpi .slt v96 c0_i32_65
  let v101 : BitVec 1 := Scalar.xori v99 v100
  let c0_i32_63 : BitVec 32 := 0#32
  let v98 : BitVec 1 := Scalar.cmpi .ne v97 c0_i32_63
  let v102 : BitVec 1 := Scalar.andi v101 v98
  let v103 : BitVec 32 := Scalar.addi v97 v96
  let v104 : BitVec 32 := Scalar.select v102 v103 v97
  let c1_i32_67 : BitVec 32 := 1#32
  let v105 : BitVec 32 := Scalar.muli v104 c1_i32_67
  let v106 : BitVec 32 := Scalar.addi c0_i32_68 v105
  v106.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_69 : BitVec 32 := 7#32
  let v107 : BitVec 32 := Scalar.addi v2 c7_i32_69
  let c8_i32_70 : BitVec 32 := 8#32
  let c0_i32_71 : BitVec 32 := 0#32
  let v108 : BitVec 1 := Scalar.cmpi .eq c8_i32_70 c0_i32_71
  let c1_i32_72 : BitVec 32 := 1#32
  let v109 : BitVec 32 := Scalar.select v108 c1_i32_72 c8_i32_70
  let v110 : BitVec 32 := Scalar.remsi v107 v109
  let c0_i32_74 : BitVec 32 := 0#32
  let v112 : BitVec 1 := Scalar.cmpi .slt v110 c0_i32_74
  let c0_i32_75 : BitVec 32 := 0#32
  let v113 : BitVec 1 := Scalar.cmpi .slt v109 c0_i32_75
  let v114 : BitVec 1 := Scalar.xori v112 v113
  let c0_i32_73 : BitVec 32 := 0#32
  let v111 : BitVec 1 := Scalar.cmpi .ne v110 c0_i32_73
  let v115 : BitVec 1 := Scalar.andi v114 v111
  let v116 : BitVec 32 := Scalar.addi v110 v109
  let v117 : BitVec 32 := Scalar.select v115 v116 v110
  let c1_i32_77 : BitVec 32 := 1#32
  let v118 : BitVec 32 := Scalar.muli v117 c1_i32_77
  let v119 : BitVec 32 := Scalar.addi c0_i32_78 v118
  v119.toNat
def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let v9 : BitVec 32 := Scalar.extui v8
  let c0_i32_3 : BitVec 32 := 0#32
  let v10 : BitVec 1 := Scalar.cmpi .ne v9 c0_i32_3
  v10

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v30 : Index := Scalar.indexCast v2
  let c0_14 : Index := 0#32
  let c0_15 : Index := 0#32
  ![v30.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_27 : BitVec 32 := 0#32
  let c0_i32_28 : BitVec 32 := 0#32
  ![v2.toNat, 0, 0]
def k0_dev8 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v34 : BitVec 32 := Scalar.addi v2 c1_i32_16
  let c8_i32_17 : BitVec 32 := 8#32
  let c0_i32_18 : BitVec 32 := 0#32
  let v35 : BitVec 1 := Scalar.cmpi .eq c8_i32_17 c0_i32_18
  let c1_i32_19 : BitVec 32 := 1#32
  let v36 : BitVec 32 := Scalar.select v35 c1_i32_19 c8_i32_17
  let v37 : BitVec 32 := Scalar.remsi v34 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c1_i32_25 : BitVec 32 := 1#32
  let v45 : BitVec 32 := Scalar.muli v44 c1_i32_25
  let v46 : BitVec 32 := Scalar.addi c0_i32_26 v45
  v46.toNat
def k0_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v55 : BitVec 32 := Scalar.addi v2 c2_i32_31
  let c8_i32_32 : BitVec 32 := 8#32
  let c0_i32_33 : BitVec 32 := 0#32
  let v56 : BitVec 1 := Scalar.cmpi .eq c8_i32_32 c0_i32_33
  let c1_i32_34 : BitVec 32 := 1#32
  let v57 : BitVec 32 := Scalar.select v56 c1_i32_34 c8_i32_32
  let v58 : BitVec 32 := Scalar.remsi v55 v57
  let c0_i32_36 : BitVec 32 := 0#32
  let v60 : BitVec 1 := Scalar.cmpi .slt v58 c0_i32_36
  let c0_i32_37 : BitVec 32 := 0#32
  let v61 : BitVec 1 := Scalar.cmpi .slt v57 c0_i32_37
  let v62 : BitVec 1 := Scalar.xori v60 v61
  let c0_i32_35 : BitVec 32 := 0#32
  let v59 : BitVec 1 := Scalar.cmpi .ne v58 c0_i32_35
  let v63 : BitVec 1 := Scalar.andi v62 v59
  let v64 : BitVec 32 := Scalar.addi v58 v57
  let v65 : BitVec 32 := Scalar.select v63 v64 v58
  let c1_i32_40 : BitVec 32 := 1#32
  let v66 : BitVec 32 := Scalar.muli v65 c1_i32_40
  let v67 : BitVec 32 := Scalar.addi c0_i32_41 v66
  v67.toNat
def k0_dev10 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v76 : BitVec 32 := Scalar.addi v2 c3_i32
  let c8_i32_46 : BitVec 32 := 8#32
  let c0_i32_47 : BitVec 32 := 0#32
  let v77 : BitVec 1 := Scalar.cmpi .eq c8_i32_46 c0_i32_47
  let c1_i32_48 : BitVec 32 := 1#32
  let v78 : BitVec 32 := Scalar.select v77 c1_i32_48 c8_i32_46
  let v79 : BitVec 32 := Scalar.remsi v76 v78
  let c0_i32_50 : BitVec 32 := 0#32
  let v81 : BitVec 1 := Scalar.cmpi .slt v79 c0_i32_50
  let c0_i32_51 : BitVec 32 := 0#32
  let v82 : BitVec 1 := Scalar.cmpi .slt v78 c0_i32_51
  let v83 : BitVec 1 := Scalar.xori v81 v82
  let c0_i32_49 : BitVec 32 := 0#32
  let v80 : BitVec 1 := Scalar.cmpi .ne v79 c0_i32_49
  let v84 : BitVec 1 := Scalar.andi v83 v80
  let v85 : BitVec 32 := Scalar.addi v79 v78
  let v86 : BitVec 32 := Scalar.select v84 v85 v79
  let c1_i32_54 : BitVec 32 := 1#32
  let v87 : BitVec 32 := Scalar.muli v86 c1_i32_54
  let v88 : BitVec 32 := Scalar.addi c0_i32_55 v87
  v88.toNat
def k0_dev11 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v97 : BitVec 32 := Scalar.addi v2 c4_i32
  let c8_i32_60 : BitVec 32 := 8#32
  let c0_i32_61 : BitVec 32 := 0#32
  let v98 : BitVec 1 := Scalar.cmpi .eq c8_i32_60 c0_i32_61
  let c1_i32_62 : BitVec 32 := 1#32
  let v99 : BitVec 32 := Scalar.select v98 c1_i32_62 c8_i32_60
  let v100 : BitVec 32 := Scalar.remsi v97 v99
  let c0_i32_64 : BitVec 32 := 0#32
  let v102 : BitVec 1 := Scalar.cmpi .slt v100 c0_i32_64
  let c0_i32_65 : BitVec 32 := 0#32
  let v103 : BitVec 1 := Scalar.cmpi .slt v99 c0_i32_65
  let v104 : BitVec 1 := Scalar.xori v102 v103
  let c0_i32_63 : BitVec 32 := 0#32
  let v101 : BitVec 1 := Scalar.cmpi .ne v100 c0_i32_63
  let v105 : BitVec 1 := Scalar.andi v104 v101
  let v106 : BitVec 32 := Scalar.addi v100 v99
  let v107 : BitVec 32 := Scalar.select v105 v106 v100
  let c1_i32_68 : BitVec 32 := 1#32
  let v108 : BitVec 32 := Scalar.muli v107 c1_i32_68
  let v109 : BitVec 32 := Scalar.addi c0_i32_69 v108
  v109.toNat
def k0_dev12 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v118 : BitVec 32 := Scalar.addi v2 c5_i32
  let c8_i32_74 : BitVec 32 := 8#32
  let c0_i32_75 : BitVec 32 := 0#32
  let v119 : BitVec 1 := Scalar.cmpi .eq c8_i32_74 c0_i32_75
  let c1_i32_76 : BitVec 32 := 1#32
  let v120 : BitVec 32 := Scalar.select v119 c1_i32_76 c8_i32_74
  let v121 : BitVec 32 := Scalar.remsi v118 v120
  let c0_i32_78 : BitVec 32 := 0#32
  let v123 : BitVec 1 := Scalar.cmpi .slt v121 c0_i32_78
  let c0_i32_79 : BitVec 32 := 0#32
  let v124 : BitVec 1 := Scalar.cmpi .slt v120 c0_i32_79
  let v125 : BitVec 1 := Scalar.xori v123 v124
  let c0_i32_77 : BitVec 32 := 0#32
  let v122 : BitVec 1 := Scalar.cmpi .ne v121 c0_i32_77
  let v126 : BitVec 1 := Scalar.andi v125 v122
  let v127 : BitVec 32 := Scalar.addi v121 v120
  let v128 : BitVec 32 := Scalar.select v126 v127 v121
  let c1_i32_82 : BitVec 32 := 1#32
  let v129 : BitVec 32 := Scalar.muli v128 c1_i32_82
  let v130 : BitVec 32 := Scalar.addi c0_i32_83 v129
  v130.toNat
def k0_dev13 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v139 : BitVec 32 := Scalar.addi v2 c6_i32
  let c8_i32_88 : BitVec 32 := 8#32
  let c0_i32_89 : BitVec 32 := 0#32
  let v140 : BitVec 1 := Scalar.cmpi .eq c8_i32_88 c0_i32_89
  let c1_i32_90 : BitVec 32 := 1#32
  let v141 : BitVec 32 := Scalar.select v140 c1_i32_90 c8_i32_88
  let v142 : BitVec 32 := Scalar.remsi v139 v141
  let c0_i32_92 : BitVec 32 := 0#32
  let v144 : BitVec 1 := Scalar.cmpi .slt v142 c0_i32_92
  let c0_i32_93 : BitVec 32 := 0#32
  let v145 : BitVec 1 := Scalar.cmpi .slt v141 c0_i32_93
  let v146 : BitVec 1 := Scalar.xori v144 v145
  let c0_i32_91 : BitVec 32 := 0#32
  let v143 : BitVec 1 := Scalar.cmpi .ne v142 c0_i32_91
  let v147 : BitVec 1 := Scalar.andi v146 v143
  let v148 : BitVec 32 := Scalar.addi v142 v141
  let v149 : BitVec 32 := Scalar.select v147 v148 v142
  let c1_i32_96 : BitVec 32 := 1#32
  let v150 : BitVec 32 := Scalar.muli v149 c1_i32_96
  let v151 : BitVec 32 := Scalar.addi c0_i32_97 v150
  v151.toNat
def k0_dev14 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_102 : BitVec 32 := 7#32
  let v160 : BitVec 32 := Scalar.addi v2 c7_i32_102
  let c8_i32_103 : BitVec 32 := 8#32
  let c0_i32_104 : BitVec 32 := 0#32
  let v161 : BitVec 1 := Scalar.cmpi .eq c8_i32_103 c0_i32_104
  let c1_i32_105 : BitVec 32 := 1#32
  let v162 : BitVec 32 := Scalar.select v161 c1_i32_105 c8_i32_103
  let v163 : BitVec 32 := Scalar.remsi v160 v162
  let c0_i32_107 : BitVec 32 := 0#32
  let v165 : BitVec 1 := Scalar.cmpi .slt v163 c0_i32_107
  let c0_i32_108 : BitVec 32 := 0#32
  let v166 : BitVec 1 := Scalar.cmpi .slt v162 c0_i32_108
  let v167 : BitVec 1 := Scalar.xori v165 v166
  let c0_i32_106 : BitVec 32 := 0#32
  let v164 : BitVec 1 := Scalar.cmpi .ne v163 c0_i32_106
  let v168 : BitVec 1 := Scalar.andi v167 v164
  let v169 : BitVec 32 := Scalar.addi v163 v162
  let v170 : BitVec 32 := Scalar.select v168 v169 v163
  let c1_i32_111 : BitVec 32 := 1#32
  let v171 : BitVec 32 := Scalar.muli v170 c1_i32_111
  let v172 : BitVec 32 := Scalar.addi c0_i32_112 v171
  v172.toNat
def k0_cond15 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v28 : Index := Scalar.indexCast v2
  let c0 : Index := 0#32
  let c0_13 : Index := 0#32
  ![v28.toNat, 0, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let c0_i32_35 : BitVec 32 := 0#32
  ![v2.toNat, 0, 0]
def k0_off5 (d0 : Dev nD) (c1_i32_16 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : BitVec 32 := Scalar.addi v2 c1_i32_16
  let c8_i32_17 : BitVec 32 := 8#32
  let c0_i32_18 : BitVec 32 := 0#32
  let v36 : BitVec 1 := Scalar.cmpi .eq c8_i32_17 c0_i32_18
  let c1_i32_19 : BitVec 32 := 1#32
  let v37 : BitVec 32 := Scalar.select v36 c1_i32_19 c8_i32_17
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c0_i32_36 : BitVec 32 := 0#32
  let c0_i32_37 : BitVec 32 := 0#32
  ![v45.toNat, 0, 0]
def k0_dev15 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v46 : BitVec 32 := Scalar.addi v2 c1_i32_23
  let c8_i32_24 : BitVec 32 := 8#32
  let c0_i32_25 : BitVec 32 := 0#32
  let v47 : BitVec 1 := Scalar.cmpi .eq c8_i32_24 c0_i32_25
  let c1_i32_26 : BitVec 32 := 1#32
  let v48 : BitVec 32 := Scalar.select v47 c1_i32_26 c8_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c1_i32_32 : BitVec 32 := 1#32
  let v57 : BitVec 32 := Scalar.muli v56 c1_i32_32
  let v58 : BitVec 32 := Scalar.addi c0_i32_33 v57
  v58.toNat
def k0_dev16 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_45 : BitVec 32 := 2#32
  let v78 : BitVec 32 := Scalar.addi v2 c2_i32_45
  let c8_i32_46 : BitVec 32 := 8#32
  let c0_i32_47 : BitVec 32 := 0#32
  let v79 : BitVec 1 := Scalar.cmpi .eq c8_i32_46 c0_i32_47
  let c1_i32_48 : BitVec 32 := 1#32
  let v80 : BitVec 32 := Scalar.select v79 c1_i32_48 c8_i32_46
  let v81 : BitVec 32 := Scalar.remsi v78 v80
  let c0_i32_50 : BitVec 32 := 0#32
  let v83 : BitVec 1 := Scalar.cmpi .slt v81 c0_i32_50
  let c0_i32_51 : BitVec 32 := 0#32
  let v84 : BitVec 1 := Scalar.cmpi .slt v80 c0_i32_51
  let v85 : BitVec 1 := Scalar.xori v83 v84
  let c0_i32_49 : BitVec 32 := 0#32
  let v82 : BitVec 1 := Scalar.cmpi .ne v81 c0_i32_49
  let v86 : BitVec 1 := Scalar.andi v85 v82
  let v87 : BitVec 32 := Scalar.addi v81 v80
  let v88 : BitVec 32 := Scalar.select v86 v87 v81
  let c1_i32_54 : BitVec 32 := 1#32
  let v89 : BitVec 32 := Scalar.muli v88 c1_i32_54
  let v90 : BitVec 32 := Scalar.addi c0_i32_55 v89
  v90.toNat
def k0_dev17 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_66 : BitVec 32 := 3#32
  let v110 : BitVec 32 := Scalar.addi v2 c3_i32_66
  let c8_i32_67 : BitVec 32 := 8#32
  let c0_i32_68 : BitVec 32 := 0#32
  let v111 : BitVec 1 := Scalar.cmpi .eq c8_i32_67 c0_i32_68
  let c1_i32_69 : BitVec 32 := 1#32
  let v112 : BitVec 32 := Scalar.select v111 c1_i32_69 c8_i32_67
  let v113 : BitVec 32 := Scalar.remsi v110 v112
  let c0_i32_71 : BitVec 32 := 0#32
  let v115 : BitVec 1 := Scalar.cmpi .slt v113 c0_i32_71
  let c0_i32_72 : BitVec 32 := 0#32
  let v116 : BitVec 1 := Scalar.cmpi .slt v112 c0_i32_72
  let v117 : BitVec 1 := Scalar.xori v115 v116
  let c0_i32_70 : BitVec 32 := 0#32
  let v114 : BitVec 1 := Scalar.cmpi .ne v113 c0_i32_70
  let v118 : BitVec 1 := Scalar.andi v117 v114
  let v119 : BitVec 32 := Scalar.addi v113 v112
  let v120 : BitVec 32 := Scalar.select v118 v119 v113
  let c1_i32_75 : BitVec 32 := 1#32
  let v121 : BitVec 32 := Scalar.muli v120 c1_i32_75
  let v122 : BitVec 32 := Scalar.addi c0_i32_76 v121
  v122.toNat
def k0_dev18 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_87 : BitVec 32 := 4#32
  let v142 : BitVec 32 := Scalar.addi v2 c4_i32_87
  let c8_i32_88 : BitVec 32 := 8#32
  let c0_i32_89 : BitVec 32 := 0#32
  let v143 : BitVec 1 := Scalar.cmpi .eq c8_i32_88 c0_i32_89
  let c1_i32_90 : BitVec 32 := 1#32
  let v144 : BitVec 32 := Scalar.select v143 c1_i32_90 c8_i32_88
  let v145 : BitVec 32 := Scalar.remsi v142 v144
  let c0_i32_92 : BitVec 32 := 0#32
  let v147 : BitVec 1 := Scalar.cmpi .slt v145 c0_i32_92
  let c0_i32_93 : BitVec 32 := 0#32
  let v148 : BitVec 1 := Scalar.cmpi .slt v144 c0_i32_93
  let v149 : BitVec 1 := Scalar.xori v147 v148
  let c0_i32_91 : BitVec 32 := 0#32
  let v146 : BitVec 1 := Scalar.cmpi .ne v145 c0_i32_91
  let v150 : BitVec 1 := Scalar.andi v149 v146
  let v151 : BitVec 32 := Scalar.addi v145 v144
  let v152 : BitVec 32 := Scalar.select v150 v151 v145
  let c1_i32_96 : BitVec 32 := 1#32
  let v153 : BitVec 32 := Scalar.muli v152 c1_i32_96
  let v154 : BitVec 32 := Scalar.addi c0_i32_97 v153
  v154.toNat
def k0_dev19 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_108 : BitVec 32 := 5#32
  let v174 : BitVec 32 := Scalar.addi v2 c5_i32_108
  let c8_i32_109 : BitVec 32 := 8#32
  let c0_i32_110 : BitVec 32 := 0#32
  let v175 : BitVec 1 := Scalar.cmpi .eq c8_i32_109 c0_i32_110
  let c1_i32_111 : BitVec 32 := 1#32
  let v176 : BitVec 32 := Scalar.select v175 c1_i32_111 c8_i32_109
  let v177 : BitVec 32 := Scalar.remsi v174 v176
  let c0_i32_113 : BitVec 32 := 0#32
  let v179 : BitVec 1 := Scalar.cmpi .slt v177 c0_i32_113
  let c0_i32_114 : BitVec 32 := 0#32
  let v180 : BitVec 1 := Scalar.cmpi .slt v176 c0_i32_114
  let v181 : BitVec 1 := Scalar.xori v179 v180
  let c0_i32_112 : BitVec 32 := 0#32
  let v178 : BitVec 1 := Scalar.cmpi .ne v177 c0_i32_112
  let v182 : BitVec 1 := Scalar.andi v181 v178
  let v183 : BitVec 32 := Scalar.addi v177 v176
  let v184 : BitVec 32 := Scalar.select v182 v183 v177
  let c1_i32_117 : BitVec 32 := 1#32
  let v185 : BitVec 32 := Scalar.muli v184 c1_i32_117
  let v186 : BitVec 32 := Scalar.addi c0_i32_118 v185
  v186.toNat
def k0_dev20 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_129 : BitVec 32 := 6#32
  let v206 : BitVec 32 := Scalar.addi v2 c6_i32_129
  let c8_i32_130 : BitVec 32 := 8#32
  let c0_i32_131 : BitVec 32 := 0#32
  let v207 : BitVec 1 := Scalar.cmpi .eq c8_i32_130 c0_i32_131
  let c1_i32_132 : BitVec 32 := 1#32
  let v208 : BitVec 32 := Scalar.select v207 c1_i32_132 c8_i32_130
  let v209 : BitVec 32 := Scalar.remsi v206 v208
  let c0_i32_134 : BitVec 32 := 0#32
  let v211 : BitVec 1 := Scalar.cmpi .slt v209 c0_i32_134
  let c0_i32_135 : BitVec 32 := 0#32
  let v212 : BitVec 1 := Scalar.cmpi .slt v208 c0_i32_135
  let v213 : BitVec 1 := Scalar.xori v211 v212
  let c0_i32_133 : BitVec 32 := 0#32
  let v210 : BitVec 1 := Scalar.cmpi .ne v209 c0_i32_133
  let v214 : BitVec 1 := Scalar.andi v213 v210
  let v215 : BitVec 32 := Scalar.addi v209 v208
  let v216 : BitVec 32 := Scalar.select v214 v215 v209
  let c1_i32_138 : BitVec 32 := 1#32
  let v217 : BitVec 32 := Scalar.muli v216 c1_i32_138
  let v218 : BitVec 32 := Scalar.addi c0_i32_139 v217
  v218.toNat
def k0_dev21 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_151 : BitVec 32 := 7#32
  let v238 : BitVec 32 := Scalar.addi v2 c7_i32_151
  let c8_i32_152 : BitVec 32 := 8#32
  let c0_i32_153 : BitVec 32 := 0#32
  let v239 : BitVec 1 := Scalar.cmpi .eq c8_i32_152 c0_i32_153
  let c1_i32_154 : BitVec 32 := 1#32
  let v240 : BitVec 32 := Scalar.select v239 c1_i32_154 c8_i32_152
  let v241 : BitVec 32 := Scalar.remsi v238 v240
  let c0_i32_156 : BitVec 32 := 0#32
  let v243 : BitVec 1 := Scalar.cmpi .slt v241 c0_i32_156
  let c0_i32_157 : BitVec 32 := 0#32
  let v244 : BitVec 1 := Scalar.cmpi .slt v240 c0_i32_157
  let v245 : BitVec 1 := Scalar.xori v243 v244
  let c0_i32_155 : BitVec 32 := 0#32
  let v242 : BitVec 1 := Scalar.cmpi .ne v241 c0_i32_155
  let v246 : BitVec 1 := Scalar.andi v245 v242
  let v247 : BitVec 32 := Scalar.addi v241 v240
  let v248 : BitVec 32 := Scalar.select v246 v247 v241
  let c1_i32_160 : BitVec 32 := 1#32
  let v249 : BitVec 32 := Scalar.muli v248 c1_i32_160
  let v250 : BitVec 32 := Scalar.addi c0_i32_161 v249
  v250.toNat
def k0_cond16 (i : grid0.Coords) : BitVec 1 :=
  let arg0 : BitVec 32 := BitVec.ofNat 32 (i 0).val
  let c2_i32_10 : BitVec 32 := 2#32
  let v23 : BitVec 1 := Scalar.cmpi .eq arg0 c2_i32_10
  let arg1 : BitVec 32 := BitVec.ofNat 32 (i 1).val
  let c7_i32_11 : BitVec 32 := 7#32
  let v24 : BitVec 1 := Scalar.cmpi .eq arg1 c7_i32_11
  let v25 : BitVec 1 := Scalar.andi v23 v24
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c7_i32 : BitVec 32 := 7#32
  let v2 : BitVec 32 := Scalar.select v1 c7_i32 arg1
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  ![c0_i32_1.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c7_i32 : BitVec 32 := 7#32
  let v2 : BitVec 32 := Scalar.select v1 c7_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S512x2048 : Shape := ⟨2, ![512, 2048]⟩
abbrev S2048x32768 : Shape := ⟨2, ![2048, 32768]⟩
abbrev S32768x2048 : Shape := ⟨2, ![32768, 2048]⟩
abbrev S512x32768 : Shape := ⟨2, ![512, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x32768, .bf16⟩
  | .hbm, ⟨2, _⟩ => ⟨S32768x2048, .bf16⟩
  | .hbm, ⟨3, _⟩ => ⟨S2048x32768, .bf16⟩
  | .hbm, ⟨4, _⟩ => ⟨S32768x2048, .bf16⟩
  | .hbm, ⟨5, _⟩ => ⟨S2048x32768, .bf16⟩
  | .hbm, ⟨6, _⟩ => ⟨S32768x2048, .bf16⟩
  | .hbm, ⟨7, _⟩ => ⟨S512x32768, .f32⟩
  | .hbm, ⟨8, _⟩ => ⟨S_, .f32⟩
  | .hbm, ⟨9, _⟩ => ⟨S512x32768, .f32⟩
  | .hbm, ⟨10, _⟩ => ⟨S512x32768, .f32⟩
  | .hbm, ⟨11, _⟩ => ⟨S512x2048, .f32⟩
  | .hbm, ⟨12, _⟩ => ⟨S512x32768, .f32⟩
  | .hbm, ⟨13, _⟩ => ⟨S_, .f32⟩
  | .hbm, ⟨14, _⟩ => ⟨S512x32768, .f32⟩
  | .hbm, ⟨15, _⟩ => ⟨S512x32768, .f32⟩
  | .hbm, ⟨16, _⟩ => ⟨S512x2048, .f32⟩
  | .hbm, ⟨17, _⟩ => ⟨S512x32768, .f32⟩
  | .hbm, ⟨18, _⟩ => ⟨S_, .f32⟩
  | .hbm, ⟨19, _⟩ => ⟨S512x32768, .f32⟩
  | .hbm, ⟨20, _⟩ => ⟨S512x32768, .f32⟩
  | .hbm, ⟨21, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Mem.lean ====
/-
The buffers of the kernel as its body uses them: loads and stores of whole memrefs and of slots, and the eight slots of a stacked buffer.

A stacked buffer has shape 8 × 64 × 2048; its slot `b` is the 64 × 2048 block at leading index `b`. A transfer moves one slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.VecWindow
public import Idealize.ShloMosaic.Lib.Tactic
public import Idealize.ShloMosaic.Lib.Ring
public import Idealize.ShloMosaic.Lib.Transfers

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the kernel's own (eight duty names) -/

/-- The ghost state of the kernel's own semaphores. -/
abbrev UB : Type := URounds (GSem nD τ sig) (Fin 8)
/-- The ghost state of the launch: the pipeline's and the kernel's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- The weakest precondition of a program of core `c` at the kernel's definitions. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Core `c` holds all of the memref `M` outright, and `M` reads `X`. -/
abbrev own (c : Dev nD) {s : Shape} {e : EltTy} (M : Memref sig .tc .vmem s e) (X : s.Idx → Elt F e) : sProp 𝕄 :=
  owns (c : Thread nD τ) M fullShare X

/-! ## Loads and stores of a whole memref -/

/-- A load of the whole of an owned memref yields what the memref reads. -/
theorem load_full (c : Dev nD) {s : Shape} {e : EltTy} (M : Memref sig .tc .vmem s e) (q : PosShare TreeShare) (X : s.Idx → Elt F e)
    {off : Fin s.rank → ℕ} {inb : ∀ a, off a + s.size a ≤ s.size a} {hl : M.view.LoadsAt (Rect.unit off s.size inb).toLoadRect}
    {α : Type} {k : ((Rect.unit off s.size inb).toLoadRect.shape.Idx → Elt F e) → Prog (TpuEff nD τ sig (Elt F) Λ₀ .tc) α} {Q : α → sProp 𝕄} :
    (owns (c : Thread nD τ) M q X : sProp 𝕄)
      ⊢ iprop((owns (c : Thread nD τ) M q X -∗ WP c (k X) Q) -∗ WP c (.op (.load M (Rect.unit off s.size inb).toLoadRect hl) k) Q) := by
  unfold owns
  iintro ⟨%f, %hf, Hp⟩ Hk
  iapply (wp_load_rect 𝒱₀ (c : Thread nD τ) none Set.univ (m := M) (r := Rect.unit off s.size inb)
    (S := M.view.set) (f := f) (by
      show (M.view.slice (Rect.unit off s.size inb)).set ⊆ _
      exact View.set_slice_subset _ _)) $$ [Hp]
  · iexact Hp
  iintro Hp
  have hX : (M.access (Rect.unit off s.size inb)).read (Elt F) f = X := by
    subst hf; funext y
    show M.view.read (Elt F) f ((Rect.unit off s.size inb).emb y) = _
    rw [Rect.emb_unit_full]
  rw [hX]
  iapply Hk
  iexists f
  isplitr; · ipureintro; exact hf
  iexact Hp

/-- A store over the whole of an owned memref leaves it reading the stored vector. -/
theorem store_full (c : Dev nD) {s : Shape} {e : EltTy} (M : Memref sig .tc .vmem s e) (X : s.Idx → Elt F e)
    {off : Fin s.rank → ℕ} {inb : ∀ a, off a + s.size a ≤ s.size a} {w : (Rect.unit off s.size inb).shape.Idx → Elt F e}
    {hx : (M.access (Rect.unit off s.size inb)).Stores Finset.univ}
    {hm : (Finset.univ : Finset (Rect.unit off s.size inb).shape.Idx) = Finset.univ ∨ ∀ a, (Rect.unit off s.size inb).stride a = 1}
    {α : Type} {k : PUnit → Prog (TpuEff nD τ sig (Elt F) Λ₀ .tc) α} {Q : α → sProp 𝕄} :
    (own c M X : sProp 𝕄)
      ⊢ iprop((own c M w -∗ WP c (k ⟨⟩) Q) -∗ WP c (.op (.store M (Rect.unit off s.size inb) w Finset.univ hx hm) k) Q) := by
  unfold own owns
  iintro ⟨%f, %hf, Hp⟩ Hk
  iapply (wp_store 𝒱₀ (c : Thread nD τ) none Set.univ (m := M) (r := Rect.unit off s.size inb) (Mk := Finset.univ)
    (S := M.view.set) (f := f) (by
      show (M.view.slice (Rect.unit off s.size inb)).setOn Finset.univ ⊆ _
      exact View.set_slice_subset _ _)) $$ [Hp]
  · iexact Hp
  iintro Hp
  iapply Hk
  iexists _
  isplitr
  · ipureintro
    funext y
    have h := congrFun (View.read_write_univ (v := M.access (Rect.unit off s.size inb)) (Val := Elt F) f w) y
    rw [← h]
    show _ = M.view.read (Elt F) _ ((Rect.unit off s.size inb).emb y)
    rw [Rect.emb_unit_full]
  iexact Hp

/-! ## Slots -/

/-- A slot lies inside its buffer. -/
theorem slot_inb (b : Fin 8) : ∀ a, (![b.val, 0, 0] : Fin 3 → ℕ) a + S1x64x2048.size a ≤ S8x64x2048.size a := by revert b; decide

/-- The rectangle of slot `b`. -/
abbrev rc (b : Fin 8) : Rect S8x64x2048 := Rect.unit (s := S8x64x2048) ![b.val, 0, 0] S1x64x2048.size (slot_inb b)

/-- Slot `b` of a stacked buffer. -/
abbrev slot (M : Memref sig .tc .vmem S8x64x2048 .bf16) (b : Fin 8) : Memref sig .tc .vmem S64x2048 .bf16 :=
  (M.slice (rc b) (fun _ => rfl)).squeeze S64x2048 squeezes_S1x64x2048_S64x2048

/-- A 1 × 64 × 2048 vector read as a 64 × 2048 one. -/
abbrev sq (X : S1x64x2048.Idx → Elt F .bf16) : S64x2048.Idx → Elt F .bf16 :=
  fun y => X (Shape.reshapeEquiv (Shape.Squeezes.numel_eq squeezes_S1x64x2048_S64x2048) y)

/-- Slot `b` of a stacked vector, with its leading unit axis. -/
abbrev win (b : Fin 8) (X : S8x64x2048.Idx → Elt F .bf16) : S1x64x2048.Idx → Elt F .bf16 := fun y => X ((rc b).emb y)
/-- Slot `b` of a stacked vector. -/
def slc (b : Fin 8) (X : S8x64x2048.Idx → Elt F .bf16) : S64x2048.Idx → Elt F .bf16 := sq (win b X)

/-- The index of a stacked vector within its slot. -/
def inSlot (i : S8x64x2048.Idx) : S1x64x2048.Idx := fun a => match a with
  | ⟨0, _⟩ => (0 : Fin 1)
  | ⟨1, _⟩ => i 1
  | ⟨2, _⟩ => i 2

/-- Eight vectors stacked. -/
def gath (xs : Fin 8 → S64x2048.Idx → Elt F .bf16) : S8x64x2048.Idx → Elt F .bf16 :=
  fun i => xs (i 0) ((Shape.reshapeEquiv (Shape.Squeezes.numel_eq squeezes_S1x64x2048_S64x2048)).symm (inSlot i))

/-- An index is its place within its slot. -/
theorem rc_inSlot (i : S8x64x2048.Idx) : (rc (i 0)).emb (inSlot i) = i := by
  funext a
  apply Fin.ext
  rw [Rect.emb_apply]
  fin_cases a
  · show (i 0).val + 1 * 0 = _; simp
  · show 0 + 1 * (i 1).val = (i 1).val; omega
  · show 0 + 1 * (i 2).val = (i 2).val; omega

/-- An index of slot `b` has first coordinate `b`. -/
theorem emb_zero (b : Fin 8) (j : S1x64x2048.Idx) : (rc b).emb j 0 = b := by
  apply Fin.ext
  rw [Rect.emb_apply]
  have := (j 0).isLt
  have h : S1x64x2048.size 0 = 1 := rfl
  show b.val + 1 * (j 0).val = b.val
  omega
/-- The place within a slot of an index built from it. -/
theorem inSlot_emb (b : Fin 8) (j : S1x64x2048.Idx) : inSlot ((rc b).emb j) = j := by
  funext a
  apply Fin.ext
  fin_cases a
  · have := (j 0).isLt
    have h : S1x64x2048.size 0 = 1 := rfl
    show 0 = (j 0).val
    omega
  · show ((rc b).emb j 1).val = (j 1).val
    rw [Rect.emb_apply]; show 0 + 1 * (j 1).val = _; omega
  · show ((rc b).emb j 2).val = (j 2).val
    rw [Rect.emb_apply]; show 0 + 1 * (j 2).val = _; omega

/-- A slot of eight stacked vectors is the vector put there. -/
theorem slc_gath (xs : Fin 8 → S64x2048.Idx → Elt F .bf16) (b : Fin 8) : slc b (gath xs) = xs b := by
  funext y
  show xs ((rc b).emb _ 0) ((Shape.reshapeEquiv _).symm (inSlot ((rc b).emb _))) = _
  rw [inSlot_emb, emb_zero, Equiv.symm_apply_apply]

/-- A stacked vector is determined by its slots. -/
theorem eq_gath (X : S8x64x2048.Idx → Elt F .bf16) (xs : Fin 8 → S64x2048.Idx → Elt F .bf16) (h : ∀ b, slc b X = xs b) : X = gath xs := by
  funext i
  refine Eq.trans ?_ (congrFun (h (i 0)) _)
  show _ = X ((rc (i 0)).emb (Shape.reshapeEquiv _ ((Shape.reshapeEquiv _).symm (inSlot i))))
  rw [Equiv.apply_symm_apply, rc_inSlot]

/-- Entailment under an iterated separating conjunction. -/
theorem bmono {I : Type} {s : Finset I} {Φ Ψ : I → sProp 𝕄} (h : ∀ i ∈ s, Φ i ⊢ Ψ i) : bigSep s Φ ⊢ bigSep s Ψ := bigSep_mono h

/-! ## The slots' element sets -/

/-- The elements of slot `b`. -/
def sset (M : Memref sig .tc .vmem S8x64x2048 .bf16) (b : Fin 8) : Finset M.view.ty.Idx := (slot M b).view.set

/-- A slot's elements, through the buffer's view. -/
theorem sset_eq (M : Memref sig .tc .vmem S8x64x2048 .bf16) (b : Fin 8) : sset M b = (rc b).set.map M.view.emb := by
  unfold sset; rw [Memref.set_view_squeeze]; exact View.set_slice _ _

/-- Distinct slots are disjoint. -/
theorem sset_disjoint (M : Memref sig .tc .vmem S8x64x2048 .bf16) (b b' : Fin 8) (h : b ≠ b') :
    Disjoint (sset M b) (sset M b') := by
  rw [sset_eq, sset_eq, Finset.disjoint_map]
  exact Ring.lead_disjoint (s := S8x64x2048) (0 : Fin 3) 1 (fun b : Fin 8 => ![b.val, 0, 0]) S1x64x2048.size slot_inb
    (fun b => by show b.val = 1 * b.val; omega) rfl b b' h

/-- An element is in the buffer's view when it is in some slot. -/
theorem mem_sset (M : Memref sig .tc .vmem S8x64x2048 .bf16) (x : M.view.ty.Idx) : (∃ b, x ∈ sset M b) ↔ x ∈ M.view.set := by
  simp only [sset_eq, Finset.mem_map]
  constructor
  · rintro ⟨b, j, -, rfl⟩; exact Finset.mem_map_of_mem _ (Finset.mem_univ _)
  · intro hx
    obtain ⟨i, -, rfl⟩ := Finset.mem_map.mp hx
    refine ⟨i 0, i, ?_, rfl⟩
    rw [← Rect.map_emb_univ]
    exact Finset.mem_map.mpr ⟨inSlot i, Finset.mem_univ _, rc_inSlot i⟩

/-- The eight slots make up the buffer. -/
theorem sset_cover (c : Dev nD) (M : Memref sig .tc .vmem S8x64x2048 .bf16) :
    (Finset.univ : Finset (Fin 8)).biUnion (fun b => (sset M b : Finset (Idx (M.view.loc (c : Thread nD τ))))) = M.view.set := by
  ext x
  rw [Finset.mem_biUnion]
  exact ⟨fun ⟨b, _, h⟩ => (mem_sset M x).mp ⟨b, h⟩, fun h => let ⟨b, hb⟩ := (mem_sset M x).mpr h; ⟨b, Finset.mem_univ _, hb⟩⟩

/-- A slot's contents are the slice of the buffer's. -/
theorem slot_read (M : Memref sig .tc .vmem S8x64x2048 .bf16) (b : Fin 8) (f : M.view.ty.Contents (Elt F)) :
    (slot M b).view.read (Elt F) f = slc b (M.view.read (Elt F) f) := rfl

/-- A slot held, by its elements in the whole buffer. -/
theorem own_slot (c : Dev nD) (M : Memref sig .tc .vmem S8x64x2048 .bf16) (b : Fin 8) (Y : S64x2048.Idx → Elt F .bf16) :
    (own c (slot M b) Y : sProp 𝕄)
      = iprop(∃ f : Buf (Elt F) (M.view.loc (c : Thread nD τ)), ⌜slc b (M.view.read (Elt F) f) = Y⌝ ∗ (M.view.loc (c : Thread nD τ) ↦[sset M b]{fullShare} f)) := rfl

/-- A stacked buffer held whole is its eight slots held. -/
theorem own_split (c : Dev nD) (M : Memref sig .tc .vmem S8x64x2048 .bf16) (X : S8x64x2048.Idx → Elt F .bf16) :
    (own c M X : sProp 𝕄) ⊢ bigSep Finset.univ fun b : Fin 8 => own c (slot M b) (slc b X) := by
  simp only [own_slot]
  unfold own owns
  iintro ⟨%f, %hf, Hp⟩
  have e : (M.view.loc (c : Thread nD τ) ↦[M.view.set]{fullShare} f : sProp 𝕄)
      = bigSep Finset.univ fun b : Fin 8 => M.view.loc (c : Thread nD τ) ↦[sset M b]{fullShare} f := by
    rw [← sset_cover c M]
    exact pointsTo_biUnion (ℓ := M.view.loc (c : Thread nD τ)) Finset.univ (fun b => (sset M b : Finset (Idx (M.view.loc (c : Thread nD τ))))) (fun b _ b' _ h => sset_disjoint M b b' h)
  have e' : (bigSep Finset.univ fun b : Fin 8 => (M.view.loc (c : Thread nD τ) ↦[sset M b]{fullShare} f : sProp 𝕄))
      ⊢ bigSep Finset.univ fun b : Fin 8 => (iprop(∃ f : Buf (Elt F) (M.view.loc (c : Thread nD τ)), ⌜slc b (M.view.read (Elt F) f) = slc b X⌝ ∗ (M.view.loc (c : Thread nD τ) ↦[sset M b]{fullShare} f)) : sProp 𝕄) :=
    bmono fun b _ => by
      iintro H
      iexists f
      isplitr
      · ipureintro; rw [hf]
      iexact H
  iapply e'
  iapply (Entails.of_eq e)
  iexact Hp

/-- The eight slots held, at any contents, are the stacked buffer held at those contents stacked. -/
theorem own_join (c : Dev nD) (M : Memref sig .tc .vmem S8x64x2048 .bf16) (xs : Fin 8 → S64x2048.Idx → Elt F .bf16) :
    (bigSep Finset.univ fun b : Fin 8 => own c (slot M b) (xs b)) ⊢ (own c M (gath xs) : sProp 𝕄) := by
  simp only [own_slot]
  refine (bigSep_exists_pi Finset.univ (fun (b : Fin 8) (f : Buf (Elt F) (M.view.loc (c : Thread nD τ))) =>
    (iprop(⌜slc b (M.view.read (Elt F) f) = xs b⌝ ∗ (M.view.loc (c : Thread nD τ) ↦[sset M b]{fullShare} f)) : sProp 𝕄))).trans ?_
  iintro ⟨%fs, H⟩
  ihave H := (BI.bigSep_pure_sep (M := 𝕄) Finset.univ (fun b : Fin 8 => slc b (M.view.read (Elt F) (fs b)) = xs b)
    (fun b : Fin 8 => (M.view.loc (c : Thread nD τ) ↦[sset M b]{fullShare} (fs b) : sProp 𝕄))) $$ H
  icases H with ⟨%hfs, H⟩
  ihave H := (pointsTo_biUnion_join Finset.univ (fun b : Fin 8 => sset M b) fs (fs 0) (fun b _ b' _ h => sset_disjoint M b b' h)) $$ H
  icases H with ⟨%g, %hg, H⟩
  unfold own owns
  iexists g
  isplitr
  · ipureintro
    refine eq_gath _ _ fun b => ?_
    rw [← hfs b (Finset.mem_univ b)]
    exact View.read_congr (v := (slot M b).view) (fun i hi => hg b (Finset.mem_univ b) i hi)
  · rw [← sset_cover c M]; iexact H

/-! ## Loads and stores at a slot -/

/-- A load of slot `b` of a memref owned whole yields that slot. -/
theorem load_win (c : Dev nD) (M : Memref sig .tc .vmem S8x64x2048 .bf16) (X : S8x64x2048.Idx → Elt F .bf16) (b : Fin 8)
    {off : Fin 3 → ℕ} (hoff : off = ![b.val, 0, 0]) {inb : ∀ a, off a + S1x64x2048.size a ≤ S8x64x2048.size a}
    {hl : M.view.LoadsAt (Rect.unit (s := S8x64x2048) off S1x64x2048.size inb).toLoadRect}
    {α : Type} {k : ((Rect.unit (s := S8x64x2048) off S1x64x2048.size inb).toLoadRect.shape.Idx → Elt F .bf16) → Prog (TpuEff nD τ sig (Elt F) Λ₀ .tc) α} {Q : α → sProp 𝕄} :
    (own c M X : sProp 𝕄)
      ⊢ iprop((own c M X -∗ WP c (k (win b X)) Q) -∗ WP c (.op (.load M (Rect.unit (s := S8x64x2048) off S1x64x2048.size inb).toLoadRect hl) k) Q) := by
  subst hoff
  unfold own owns
  iintro ⟨%f, %hf, Hp⟩ Hk
  iapply (wp_load_rect 𝒱₀ (c : Thread nD τ) none Set.univ (m := M) (r := rc b)
    (S := M.view.set) (f := f) (View.set_slice_subset _ _)) $$ [Hp]
  · iexact Hp
  iintro Hp
  have hX : (M.access (rc b)).read (Elt F) f = win b X := by subst hf; rfl
  rw [hX]
  iapply Hk
  iexists f
  isplitr; · ipureintro; exact hf
  iexact Hp

/-- A load of a slot owned by itself yields something. -/
theorem load_slot (c : Dev nD) (M : Memref sig .tc .vmem S8x64x2048 .bf16) (Y : S64x2048.Idx → Elt F .bf16) (b : Fin 8)
    {off : Fin 3 → ℕ} (hoff : off = ![b.val, 0, 0]) {inb : ∀ a, off a + S1x64x2048.size a ≤ S8x64x2048.size a}
    {hl : M.view.LoadsAt (Rect.unit (s := S8x64x2048) off S1x64x2048.size inb).toLoadRect}
    {α : Type} {k : ((Rect.unit (s := S8x64x2048) off S1x64x2048.size inb).toLoadRect.shape.Idx → Elt F .bf16) → Prog (TpuEff nD τ sig (Elt F) Λ₀ .tc) α} {Q : α → sProp 𝕄} :
    (own c (slot M b) Y : sProp 𝕄)
      ⊢ iprop((∀ v, own c (slot M b) Y -∗ WP c (k v) Q) -∗ WP c (.op (.load M (Rect.unit (s := S8x64x2048) off S1x64x2048.size inb).toLoadRect hl) k) Q) := by
  subst hoff
  unfold own owns
  iintro ⟨%f, %hf, Hp⟩ Hk
  iapply (wp_load_rect 𝒱₀ (c : Thread nD τ) none Set.univ (m := M) (r := rc b)
    (S := (slot M b).view.set) (f := f) (by rw [Memref.set_view_squeeze])) $$ [Hp]
  · iexact Hp
  iintro Hp
  iapply Hk
  iexists f
  isplitr; · ipureintro; exact hf
  iexact Hp

/-- A store over a slot owned by itself leaves it at the stored vector. -/
theorem store_slot (c : Dev nD) (M : Memref sig .tc .vmem S8x64x2048 .bf16) (Y : S64x2048.Idx → Elt F .bf16) (b : Fin 8)
    {off : Fin 3 → ℕ} (hoff : off = ![b.val, 0, 0]) {inb : ∀ a, off a + S1x64x2048.size a ≤ S8x64x2048.size a}
    {w : (Rect.unit (s := S8x64x2048) off S1x64x2048.size inb).shape.Idx → Elt F .bf16}
    {hx : (M.access (Rect.unit (s := S8x64x2048) off S1x64x2048.size inb)).Stores Finset.univ}
    {hm : (Finset.univ : Finset (Rect.unit (s := S8x64x2048) off S1x64x2048.size inb).shape.Idx) = Finset.univ ∨ ∀ a, (Rect.unit (s := S8x64x2048) off S1x64x2048.size inb).stride a = 1}
    {α : Type} {k : PUnit → Prog (TpuEff nD τ sig (Elt F) Λ₀ .tc) α} {Q : α → sProp 𝕄} :
    (own c (slot M b) Y : sProp 𝕄)
      ⊢ iprop((own c (slot M b) (sq w) -∗ WP c (k ⟨⟩) Q) -∗ WP c (.op (.store M (Rect.unit (s := S8x64x2048) off S1x64x2048.size inb) w Finset.univ hx hm) k) Q) := by
  subst hoff
  unfold own owns
  iintro ⟨%f, %hf, Hp⟩ Hk
  iapply (wp_store 𝒱₀ (c : Thread nD τ) none Set.univ (m := M) (r := rc b) (Mk := Finset.univ)
    (S := (slot M b).view.set) (f := f) (by rw [Memref.set_view_squeeze]; exact Finset.Subset.refl _)) $$ [Hp]
  · iexact Hp
  iintro Hp
  iapply Hk
  iexists _
  isplitr
  · ipureintro
    have h := View.read_write_univ (v := M.access (rc b)) (Val := Elt F) f w
    exact congrArg sq h
  iexact Hp

end Cert.KernelIdeal.Mlp

end
-- ==== Proof.KernelIdeal.Proto.lean ====
/-
  The protocol of the eight devices: which semaphore cell counts what, what each arrival hands its receiver, what each
  device owes when, and the order of the waits.

  Device `c` sends its block to device `c + o` over the cells of offset `o`, `o = 1 … 7`. Every cell is used once per
  layer, so its rounds are the layers.
-/
module

public import proofs.«01_k».proof.Proof.KernelIdeal.Mem

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- One summand. -/
theorem belim {I : Type} [DecidableEq I] {s : Finset I} {Φ : I → sProp 𝕄} {i : I} (h : i ∈ s) : bigSep s Φ ⊢ Φ i := bigSep_elim h

/-! ## Offsets -/

/-- The device `o` places after `c`. -/
def ofs (c : Dev nD) (o : Fin 8) : Dev nD := ⟨(c.val + o.val) % 8, Nat.mod_lt _ (by decide)⟩
/-- The offset that leads back. -/
def neg (o : Fin 8) : Fin 8 := ⟨(8 - o.val) % 8, Nat.mod_lt _ (by decide)⟩

/-- An offset and back. -/
theorem ofs_neg (c : Dev nD) (o : Fin 8) : ofs (ofs c o) (neg o) = c := by revert c o; decide
/-- Back by an offset and on again. -/
theorem ofs_neg' (c : Dev nD) (o : Fin 8) : ofs (ofs c (neg o)) o = c := by revert c o; decide
/-- Leading back twice. -/
theorem neg_neg (o : Fin 8) : neg (neg o) = o := by revert o; decide
/-- Offset zero stays. -/
theorem ofs_zero (c : Dev nD) : ofs c 0 = c := by revert c; decide

/-- Moving every device by the same offset. -/
def shiftE (o : Fin 8) : Dev nD ≃ Dev nD := ⟨fun c => ofs c o, fun c => ofs c (neg o), fun c => ofs_neg c o, fun c => ofs_neg' c o⟩
/-- The devices counted from `c` upwards. -/
def fromE (c : Dev nD) : Fin 8 ≃ Fin 8 := Equiv.ofBijective (fun o => ofs c o) (by revert c; decide)
/-- The devices counted from `c` downwards. -/
def downE (c : Dev nD) : Fin 8 ≃ Fin 8 := Equiv.ofBijective (fun o => ofs c (neg o)) (by revert c; decide)

/-- The offsets after the first `n`. -/
def todo (n : ℕ) : Finset (Fin 8) := Finset.univ.filter fun o => n < o.val
/-- The first `n` offsets (from 1). -/
def past (n : ℕ) : Finset (Fin 8) := Finset.univ.filter fun o => 0 < o.val ∧ o.val ≤ n

/-- Which offsets are to come. -/
theorem mem_todo (n : ℕ) (o : Fin 8) : o ∈ todo n ↔ n < o.val := by simp [todo]
/-- Which offsets are treated. -/
theorem mem_past (n : ℕ) (o : Fin 8) : o ∈ past n ↔ 0 < o.val ∧ o.val ≤ n := by simp [past]
/-- The next offset is the first of those to come. -/
theorem todo_step (n : ℕ) (o : Fin 8) (h : o.val = n + 1) : todo n = insert o (todo (n + 1)) := by
  ext p; rw [Finset.mem_insert, mem_todo, mem_todo, Fin.ext_iff]; omega
/-- The next offset joins those treated. -/
theorem past_step (n : ℕ) (o : Fin 8) (h : o.val = n + 1) : past (n + 1) = insert o (past n) := by
  ext p; rw [Finset.mem_insert, mem_past, mem_past, Fin.ext_iff]; omega
/-- The next offset is not among those after it. -/
theorem not_mem_todo (n : ℕ) (o : Fin 8) (h : o.val = n + 1) : o ∉ todo (n + 1) := by rw [mem_todo]; omega
/-- The next offset is not yet treated. -/
theorem not_mem_past (n : ℕ) (o : Fin 8) (h : o.val = n + 1) : o ∉ past n := by rw [mem_past]; omega
/-- At first no offset is treated. -/
theorem past_zero : past 0 = ∅ := by decide
/-- After seven, none is to come. -/
theorem todo_seven : todo 7 = ∅ := by decide
/-- After seven, all are treated. -/
theorem past_seven : past 7 = todo 0 := by decide
/-- All offsets are zero and the seven others. -/
theorem univ_todo : (Finset.univ : Finset (Fin 8)) = insert 0 (todo 0) := by decide

/-- Offsets `1 … n` treated, the others to come. -/
def St (A B : Fin 8 → sProp 𝕄) (n : ℕ) : sProp 𝕄 := iprop(bigSep (todo n) A ∗ bigSep (past n) B)

/-- The next offset is taken out, treated, and put back. -/
theorem St_open (A B : Fin 8 → sProp 𝕄) (n : ℕ) (o : Fin 8) (h : o.val = n + 1) :
    St A B n ⊢ iprop(A o ∗ (B o -∗ St A B (n + 1))) := by
  unfold St
  have e1 : bigSep (todo n) A = iprop(A o ∗ bigSep (todo (n + 1)) A) := by rw [todo_step n o h]; exact bigSep_insert (not_mem_todo n o h)
  have e2 : bigSep (past (n + 1)) B = iprop(B o ∗ bigSep (past n) B) := by rw [past_step n o h]; exact bigSep_insert (not_mem_past n o h)
  rw [e1, e2]
  iintro ⟨⟨HA, HT⟩, HP⟩
  isplitl [HA]; · iexact HA
  iintro HB
  isplitl [HT]; · iexact HT
  isplitl [HB] <;> iassumption

/-- At the start all offsets are to come. -/
theorem St_start (A B : Fin 8 → sProp 𝕄) : bigSep (todo 0) A ⊢ St A B 0 := by
  unfold St
  rw [past_zero, bigSep_empty]
  iintro H
  isplitl [H]; · iexact H
  exact (show (BI.emp : sProp 𝕄) ⊢ BI.emp from .rfl)

/-- At the end all offsets are treated. -/
theorem St_end (A B : Fin 8 → sProp 𝕄) : St A B 7 ⊢ bigSep (todo 0) B := by
  unfold St
  rw [past_seven]
  iintro ⟨-, H⟩
  iexact H

/-- Over the eight offsets: offset 0 and the others. -/
theorem big_zero (Φ : Fin 8 → sProp 𝕄) : bigSep Finset.univ Φ = iprop(Φ 0 ∗ bigSep (todo 0) Φ) := by
  rw [univ_todo]; exact bigSep_insert (by rw [mem_todo]; exact Nat.lt_irrefl 0)

/-- Over the devices, from `c` upwards. -/
theorem big_from (c : Dev nD) (Φ : Fin 8 → sProp 𝕄) : bigSep Finset.univ Φ = iprop(Φ c ∗ bigSep (todo 0) fun o => Φ (ofs c o)) := by
  rw [bigSep_univ_equiv (fromE c) Φ, big_zero]
  show iprop(Φ (ofs c 0) ∗ _) = _
  rw [ofs_zero]; rfl

/-- Over the devices, from `c` downwards. -/
theorem big_down (c : Dev nD) (Φ : Fin 8 → sProp 𝕄) : bigSep Finset.univ Φ = iprop(Φ c ∗ bigSep (todo 0) fun o => Φ (ofs c (neg o))) := by
  rw [bigSep_univ_equiv (downE c) Φ, big_zero]
  show iprop(Φ (ofs c (neg 0)) ∗ _) = _
  rw [show ofs c (neg 0) = c from by revert c; decide]; rfl

/-- Over the nonzero offsets, each replaced by the one leading back. -/
theorem big_neg (Φ : Fin 8 → sProp 𝕄) : bigSep (todo 0) (fun o => Φ (neg o)) = bigSep (todo 0) Φ := by
  have h : todo 0 = (todo 0).map ⟨neg, fun a b h => by rw [← neg_neg a, h, neg_neg]⟩ := by decide
  conv_rhs => rw [h, bigSep_map]
  rfl

/-! ## Buffers -/

abbrev xcM : Memref sig .tc .vmem S64x2048 .f32 := Memref.whole cc0_scratch0
abbrev xgM : Memref sig .tc .vmem S8x64x2048 .bf16 := Memref.whole cc0_scratch1
abbrev pM : Memref sig .tc .vmem S512x2048 .f32 := Memref.whole cc0_scratch2
abbrev psM : Memref sig .tc .vmem S8x64x2048 .bf16 := Memref.whole cc0_scratch3
abbrev prM : Memref sig .tc .vmem S8x64x2048 .bf16 := Memref.whole cc0_scratch4

/-- The credit of one block's transfer. -/
abbrev N : ℕ := (slot xgM 0).view.dmaCredit
/-- A transfer has a positive credit. -/
theorem N_pos : 0 < N := View.dmaCredit_pos _ (by decide)

/-- Core `c` holds `M` at share `q`. -/
abbrev ownq (c : Dev nD) (q : PosShare TreeShare) {s : Shape} {e : EltTy} (M : Memref sig .tc .vmem s e) (X : s.Idx → Elt F e) : sProp 𝕄 :=
  owns (c : Thread nD τ) M q X

/-- The share of a block lent to the transfer to offset `o`. -/
def shr (o : Fin 8) : PosShare TreeShare := Transfers.dealOf fullShare (todo 0) o

/-- There is a nonzero offset. -/
theorem todo_nonempty : (todo 0).Nonempty := ⟨1, by decide⟩

/-- A memref held outright is lent in seven shares. -/
theorem own_deal (c : Dev nD) {s : Shape} {e : EltTy} (M : Memref sig .tc .vmem s e) (X : s.Idx → Elt F e) :
    (own c M X : sProp 𝕄) ⊢ bigSep (todo 0) fun o => ownq c (shr o) M X := by
  unfold own owns
  iintro ⟨%f, %hf, Hp⟩
  have e : (M.view.loc (c : Thread nD τ) ↦[M.view.set]{fullShare} f : sProp 𝕄)
      = bigSep (todo 0) fun o => M.view.loc (c : Thread nD τ) ↦[M.view.set]{shr o} f := Transfers.pointsTo_deal _ todo_nonempty _
  have e' : (bigSep (todo 0) fun o => (M.view.loc (c : Thread nD τ) ↦[M.view.set]{shr o} f : sProp 𝕄)) ⊢ bigSep (todo 0) fun o => (ownq c (shr o) M X : sProp 𝕄) :=
    bmono fun o _ => by
      unfold ownq owns
      iintro H
      iexists f
      isplitr; · ipureintro; exact hf
      iexact H
  iapply e'
  iapply (Entails.of_eq e)
  iexact Hp

/-- The seven shares back are the memref held outright. -/
theorem own_undeal (c : Dev nD) {s : Shape} {e : EltTy} (M : Memref sig .tc .vmem s e) (X : s.Idx → Elt F e) :
    (bigSep (todo 0) fun o => (ownq c (shr o) M X : sProp 𝕄)) ⊢ own c M X := by
  have e1 : (bigSep (todo 0) fun o => (ownq c (shr o) M X : sProp 𝕄)) ⊢ iprop(ownq c (shr 1) M X ∗ bigSep ((todo 0).erase 1) fun o => ownq c (shr o) M X) :=
    Entails.of_eq (bigSep_erase (by decide))
  unfold ownq at e1
  unfold own ownq
  refine e1.trans ?_
  unfold owns
  iintro ⟨H1, H⟩
  icases H1 with ⟨%f, %hf, H1⟩
  have e' : (bigSep ((todo 0).erase 1) fun o => (iprop(∃ g, ⌜M.view.read (Elt F) g = X⌝ ∗ (M.view.loc (c : Thread nD τ) ↦[M.view.set]{shr o} g)) : sProp 𝕄))
      ⊢ bigSep ((todo 0).erase 1) fun o => (M.view.loc (c : Thread nD τ) ↦[M.view.set]{shr o} f : sProp 𝕄) :=
    bmono fun o _ => by
      iintro ⟨%g, %hg, H⟩
      have h : (M.view.loc (c : Thread nD τ) ↦[M.view.set]{shr o} g : sProp 𝕄) = (M.view.loc (c : Thread nD τ) ↦[M.view.set]{shr o} f) := by
        refine pointsTo_congr fun i hi => ?_
        obtain ⟨x, -, rfl⟩ := Finset.mem_map.mp hi
        exact (cast_inj _).mp (congrFun (hg.trans hf.symm) x)
      iapply (Entails.of_eq h)
      iexact H
  ihave H := e' $$ H
  have e : (M.view.loc (c : Thread nD τ) ↦[M.view.set]{fullShare} f : sProp 𝕄)
      = iprop((M.view.loc (c : Thread nD τ) ↦[M.view.set]{shr 1} f) ∗ bigSep ((todo 0).erase 1) fun o => M.view.loc (c : Thread nD τ) ↦[M.view.set]{shr o} f) :=
    (Transfers.pointsTo_deal _ todo_nonempty _).trans (bigSep_erase (by decide))
  iexists f
  isplitr; · ipureintro; exact hf
  iapply (Entails.of_eq e.symm)
  isplitl [H1]; · iexact H1
  iexact H

/-! ## Cells -/

abbrev barS : Sem sig := (SemArray.scalar (sig.barrier 0 rfl) : Sems sig S_).sem
/-- The transfer semaphore of family `j` (0: gather sent, 1: gather received, 2: scatter sent, 3: scatter received) at offset `o`. -/
def dsem (j : Fin 4) (o : Fin 8) : DmaSem sig := ⟨14 + 8 * j.val + o.val, by have := j.isLt; have := o.isLt; show _ < 46; omega⟩

abbrev Kind : Type := Option (Fin 4 × Fin 8)

def csem : Kind → SemLoc sig
  | none => .reg barS
  | some jo => .dma (dsem jo.1 jo.2)

/-- The semaphores read back. -/
def kindOf : SemLoc sig → Option Kind
  | .reg _ => some none
  | .dma q => if q.val < 14 then none else some (some (⟨(q.val - 14) / 8 % 4, Nat.mod_lt _ (by decide)⟩, ⟨(q.val - 14) % 8, Nat.mod_lt _ (by decide)⟩))

/-- A cell's kind is read back from its semaphore. -/
theorem kind_csem (k : Kind) : kindOf (csem k) = some k := by revert k; decide

/-- Distinct kinds have distinct semaphores. -/
theorem csem_inj : Function.Injective csem := fun a b h => Option.some.inj (by rw [← kind_csem a, h, kind_csem])

/-- Core `c`'s cell of kind `k`. -/
abbrev cell (c : Dev nD) (k : Kind) : GSem nD τ sig := ((c : Thread nD τ), csem k)

/-! ## What the arrivals hand over -/

/-- Device `c + o`'s slot for `c`'s block of layer `l`, free to be written, and that `c + o` waits for it. -/
def XgPeer (c : Dev nD) (l : ℕ) (o : Fin 8) : sProp 𝕄 :=
  iprop((∃ X, own (ofs c o) (slot xgM c) X) ∗ reached ER (cell (ofs c o) (some (1, o))) l)
/-- Device `c + o`'s slot for `c`'s partial sum of layer `l`, free to be written, and that `c + o` waits for it. -/
def RsPeer (c : Dev nD) (l : ℕ) (o : Fin 8) : sProp 𝕄 :=
  iprop((∃ X, own (ofs c o) (slot prM c) X) ∗ reached ER (cell (ofs c o) (some (3, o))) l)

variable (xv : ℕ → Dev nD → S64x2048.Idx → Elt F .bf16) (pv : ℕ → Dev nD → S8x64x2048.Idx → Elt F .bf16)

/-- The slot handed on for the next layer, while there is one. -/
def XgNext (c : Dev nD) (l : ℕ) (o : Fin 8) : sProp 𝕄 := if l < 2 then XgPeer c (l + 1) o else iprop(emp)

/-- A read share of `c`'s own block, back from the transfer to offset `o`. -/
def agsPay (c : Dev nD) (l : ℕ) (o : Fin 8) : sProp 𝕄 := ownq c (shr o) (slot xgM c) (xv l c)
/-- The block of layer `l` of the device `o` places before `c`, and where `c` may put that device's partial sum. -/
def agrPay (c : Dev nD) (l : ℕ) (o : Fin 8) : sProp 𝕄 :=
  iprop(own c (slot xgM (ofs c (neg o))) (xv l (ofs c (neg o))) ∗ RsPeer c l (neg o))
/-- The slot sent to offset `o`, back. -/
def rssPay (c : Dev nD) (l : ℕ) (o : Fin 8) : sProp 𝕄 := iprop(∃ X, own c (slot psM (ofs c o)) X)
/-- The partial sum for `c` of the device `o` places before it, and where `c` may put its next block. -/
def rsrPay (c : Dev nD) (l : ℕ) (o : Fin 8) : sProp 𝕄 :=
  iprop(own c (slot prM (ofs c (neg o))) (slc c (pv l (ofs c (neg o)))) ∗ XgNext c l (neg o))

def payK (c : Dev nD) (k : Kind) (r : ℕ) (d : Fin 8) : sProp 𝕄 := match k with
  | none => XgPeer c 0 (neg d)
  | some (0, o) => agsPay xv c r o
  | some (1, o) => agrPay xv c r o
  | some (2, o) => rssPay c r o
  | some (3, o) => rsrPay pv c r o

def dutiesK (k : Kind) (r : ℕ) : Finset (Fin 8) := match k with
  | none => if r = 0 then todo 0 else ∅
  | some (_, o) => if r < 3 ∧ 0 < o.val then {0} else ∅

def amountK : Kind → ℕ
  | none => 1
  | some _ => N

/-- The schedule: a barrier cell has one round, of seven units; a transfer cell one round per layer, of one block. -/
def Rd : Rounds.Schedule (GSem nD τ sig) (Fin 8) 𝕄 where
  duties g r := if g.1.2 = .tc then (kindOf g.2).elim ∅ (fun k => dutiesK k r) else ∅
  unitless _ := False
  amount g _ _ := (kindOf g.2).elim 1 amountK
  payload g r d := (kindOf g.2).elim iprop(emp) (fun k => payK xv pv g.1.1 k r d)
  amount_pos g _ _ _ := by
    rcases kindOf g.2 with _ | _ | _
    · exact Nat.one_pos
    · exact Nat.one_pos
    · exact N_pos

instance XgPeer_storable (c : Dev nD) (l : ℕ) (o : Fin 8) : BI.Storable (upEmb : UEmb _ 𝕄) (XgPeer (F := F) c l o) := by unfold XgPeer; infer_instance
instance RsPeer_storable (c : Dev nD) (l : ℕ) (o : Fin 8) : BI.Storable (upEmb : UEmb _ 𝕄) (RsPeer (F := F) c l o) := by unfold RsPeer; infer_instance
instance XgNext_storable (c : Dev nD) (l : ℕ) (o : Fin 8) : BI.Storable (upEmb : UEmb _ 𝕄) (XgNext (F := F) c l o) := by unfold XgNext; split <;> infer_instance

instance payK_storable (c : Dev nD) (k : Kind) (r : ℕ) (d : Fin 8) : BI.Storable (upEmb : UEmb _ 𝕄) (payK xv pv c k r d) := by
  unfold payK agsPay agrPay rssPay rsrPay
  split <;> infer_instance

instance Rd_storable (g : GSem nD τ sig) (r : ℕ) (d : Fin 8) : BI.Storable (upEmb : UEmb _ 𝕄) ((Rd xv pv).payload g r d) := by
  show BI.Storable upEmb ((kindOf g.2).elim iprop(emp) (fun k => payK xv pv g.1.1 k r d))
  rcases kindOf g.2 with _ | k
  · exact inferInstanceAs (BI.Storable upEmb (iprop(emp) : sProp 𝕄))
  · exact payK_storable xv pv g.1.1 k r d

/-- The duties of a cell's round. -/
theorem Rd_duties (c : Dev nD) (k : Kind) (r : ℕ) : (Rd xv pv).duties (cell c k) r = dutiesK k r := by
  show (if (c : Thread nD τ).2 = .tc then (kindOf (csem k)).elim ∅ (fun k => dutiesK k r) else ∅) = _
  rw [if_pos rfl, kind_csem]; rfl
/-- The amount of each. -/
theorem Rd_amount (c : Dev nD) (k : Kind) (r : ℕ) (d : Fin 8) : (Rd xv pv).amount (cell c k) r d = amountK k := by
  show (kindOf (csem k)).elim 1 amountK = _
  rw [kind_csem]; rfl
/-- What each hands over. -/
theorem Rd_payload (c : Dev nD) (k : Kind) (r : ℕ) (d : Fin 8) : (Rd xv pv).payload (cell c k) r d = payK xv pv c k r d := by
  show (kindOf (csem k)).elim iprop(emp) (fun k => payK xv pv c k r d) = _
  rw [kind_csem]; rfl

/-- A transfer cell has one duty in each of the three layers. -/
theorem duties_dma (c : Dev nD) (j : Fin 4) (o : Fin 8) (r : ℕ) (hr : r < 3) (ho : 0 < o.val) : (Rd xv pv).duties (cell c (some (j, o))) r = {0} := by
  rw [Rd_duties]; exact if_pos ⟨hr, ho⟩
/-- The barrier cell has seven duties. -/
theorem duties_bar (c : Dev nD) : (Rd xv pv).duties (cell c none) 0 = todo 0 := by rw [Rd_duties]; rfl
/-- A transfer cell's round is one block's credit. -/
theorem expect_dma (c : Dev nD) (j : Fin 4) (o : Fin 8) (r : ℕ) (hr : r < 3) (ho : 0 < o.val) : (Rd xv pv).expect (cell c (some (j, o))) r = N := by
  unfold Rounds.Schedule.expect Rounds.Schedule.amountOf
  rw [duties_dma xv pv c j o r hr ho, Finset.sum_singleton, Rd_amount]; rfl
/-- The barrier cell's round is seven units. -/
theorem expect_bar (c : Dev nD) : (Rd xv pv).expect (cell c none) 0 = 7 := by
  unfold Rounds.Schedule.expect Rounds.Schedule.amountOf
  rw [duties_bar]
  simp only [Rd_amount]
  decide
/-- What a transfer cell's round hands over. -/
theorem rest_dma (c : Dev nD) (j : Fin 4) (o : Fin 8) (r : ℕ) (hr : r < 3) (ho : 0 < o.val) :
    bigSep ((Rd xv pv).duties (cell c (some (j, o))) r \ ∅) (fun d => (Rd xv pv).payload (cell c (some (j, o))) r d) = payK xv pv c (some (j, o)) r 0 := by
  rw [duties_dma xv pv c j o r hr ho, Finset.sdiff_empty, bigSep_singleton, Rd_payload]
/-- What the barrier cell's round hands over. -/
theorem rest_bar (c : Dev nD) :
    bigSep ((Rd xv pv).duties (cell c none) 0 \ ∅) (fun d => (Rd xv pv).payload (cell c none) 0 d) = bigSep (todo 0) fun o => XgPeer c 0 (neg o) := by
  rw [duties_bar, Finset.sdiff_empty]; exact bigSep_congr fun d _ => Rd_payload xv pv c none 0 d

/-! ## What a device owes, and the levels -/

/-- The barrier units still to give. -/
def barOw (c : Dev nD) (n : ℕ) : CellTallies nD τ sig ℕ := ∑ o ∈ todo n, tallyAt (cell (ofs c o) none) 0 1
/-- The blocks of family `j` of layer `l` still to send. -/
def dmaOw (j : Fin 4) (c : Dev nD) (l n : ℕ) : CellTallies nD τ sig ℕ := ∑ o ∈ todo n, tallyAt (cell (ofs c o) (some (j, o))) l N
/-- Everything owed from layer `l` on. -/
def futOw (c : Dev nD) (l : ℕ) : CellTallies nD τ sig ℕ := ∑ r ∈ Finset.Ico l 3, (dmaOw 1 c r 0 + dmaOw 3 c r 0)

/-- The next signal owed. -/
theorem barOw_step (c : Dev nD) (n : ℕ) (o : Fin 8) (h : o.val = n + 1) : barOw c n = barOw c (n + 1) + tallyAt (cell (ofs c o) none) 0 1 := by
  unfold barOw; rw [todo_step n o h, Finset.sum_insert (not_mem_todo n o h), add_comm]
/-- The next copy owed. -/
theorem dmaOw_step (j : Fin 4) (c : Dev nD) (l n : ℕ) (o : Fin 8) (h : o.val = n + 1) :
    dmaOw j c l n = dmaOw j c l (n + 1) + tallyAt (cell (ofs c o) (some (j, o))) l N := by
  unfold dmaOw; rw [todo_step n o h, Finset.sum_insert (not_mem_todo n o h), add_comm]
/-- After seven signals none is owed. -/
theorem barOw_end (c : Dev nD) : barOw c 7 = 0 := by unfold barOw; rw [todo_seven, Finset.sum_empty]
/-- After seven copies none is owed. -/
theorem dmaOw_end (j : Fin 4) (c : Dev nD) (l : ℕ) : dmaOw j c l 7 = 0 := by unfold dmaOw; rw [todo_seven, Finset.sum_empty]
/-- What is owed from a layer on: its own two exchanges, and what comes after. -/
theorem futOw_step (c : Dev nD) (l : ℕ) (h : l < 3) : futOw c l = dmaOw 1 c l 0 + (dmaOw 3 c l 0 + futOw c (l + 1)) := by
  unfold futOw; rw [show Finset.Ico l 3 = insert l (Finset.Ico (l + 1) 3) from by ext; simp only [Finset.mem_insert, Finset.mem_Ico]; omega,
    Finset.sum_insert (by rw [Finset.mem_Ico]; omega), add_assoc]
/-- After the last layer nothing is owed. -/
theorem futOw_end (c : Dev nD) (l : ℕ) (h : 3 ≤ l) : futOw c l = 0 := by unfold futOw; rw [Finset.Ico_eq_empty (by omega), Finset.sum_empty]

/-- The rounds a cell's credits are counted by. -/
def L (g : GSem nD τ sig) : Finset ℕ := if g.1.2 = .tc then Finset.range 3 else ∅
/-- The levels: the barrier, then layer by layer the gathered blocks and the scattered ones; the rest at 0. -/
def lv (g : GSem nD τ sig) (r : ℕ) : ℕ := match kindOf g.2 with
  | some none => 1
  | some (some (1, _)) => 2 + 2 * r
  | some (some (3, _)) => 3 + 2 * r
  | _ => 0

/-- Only the cores have credits. -/
theorem L_of_ne (g : GSem nD τ sig) (h : g.1.2 ≠ .tc) : L g = ∅ := if_neg h
/-- A core has credits of the three rounds. -/
theorem L_tc (c : Dev nD) (sm : SemLoc sig) : L ((c : Thread nD τ), sm) = Finset.range 3 := if_pos rfl
/-- The level of a cell in a round. -/
theorem lv_cell (c : Dev nD) (k : Kind) (r : ℕ) : lv (cell c k) r = (match (some k : Option Kind) with
  | some none => 1
  | some (some (1, _)) => 2 + 2 * r
  | some (some (3, _)) => 3 + 2 * r
  | _ => 0) := by unfold lv; rw [show kindOf (cell c k).2 = some k from kind_csem k]

/-- Everything owed lies above level `b`. -/
def Above (b : ℕ) (O : CellTallies nD τ sig ℕ) : Prop := ∀ g i, 0 < O g i → i ∈ L g ∧ b < lv g i

/-- Owing nothing is above every level. -/
theorem above_zero (b : ℕ) : Above b 0 := fun g i h => absurd h (Nat.lt_irrefl 0)
/-- Two debts above a level. -/
theorem above_add {b : ℕ} {O O' : CellTallies nD τ sig ℕ} (h : Above b O) (h' : Above b O') : Above b (O + O') := fun g i hp => by
  have hp' : 0 < O g i + O' g i := hp
  rcases Nat.eq_zero_or_pos (O g i) with h0 | h0
  · exact h' g i (by omega)
  · exact h g i h0
/-- A sum of debts above a level. -/
theorem above_sum {T : Type} {b : ℕ} (s : Finset T) (O : T → CellTallies nD τ sig ℕ) (h : ∀ t ∈ s, Above b (O t)) : Above b (∑ t ∈ s, O t) := by
  classical
  induction s using Finset.induction_on with
  | empty => rw [Finset.sum_empty]; exact above_zero b
  | insert t s ht ih =>
    rw [Finset.sum_insert ht]
    exact above_add (h t (Finset.mem_insert_self _ _)) (ih fun t' ht' => h t' (Finset.mem_insert_of_mem ht'))
/-- A debt at one cell is above every lower level. -/
theorem above_tally {b : ℕ} (c : Dev nD) (k : Kind) (r n : ℕ) (hr : r < 3) (h : b < lv (cell c k) r) : Above b (tallyAt (cell c k) r n) := fun g i hp => by
  obtain ⟨rfl, rfl⟩ := Pipeline.tallyAt_pos hp
  exact ⟨by rw [L_tc]; exact Finset.mem_range.mpr hr, h⟩
/-- The signals owed are above level 0. -/
theorem above_bar (c : Dev nD) (n : ℕ) : Above 0 (barOw c n) :=
  above_sum _ _ fun o _ => above_tally _ _ _ _ (by decide) (by rw [lv_cell]; exact Nat.one_pos)
/-- A layer's gather copies are above what precedes them. -/
theorem above_ag (b : ℕ) (c : Dev nD) (l n : ℕ) (hl : l < 3) (h : b < 2 + 2 * l) : Above b (dmaOw 1 c l n) :=
  above_sum _ _ fun o _ => above_tally _ _ _ _ hl (by rw [lv_cell]; exact h)
/-- A layer's scatter copies are above what precedes them. -/
theorem above_rs (b : ℕ) (c : Dev nD) (l n : ℕ) (hl : l < 3) (h : b < 3 + 2 * l) : Above b (dmaOw 3 c l n) :=
  above_sum _ _ fun o _ => above_tally _ _ _ _ hl (by rw [lv_cell]; exact h)
/-- What is owed from a layer on is above what precedes it. -/
theorem above_fut (b : ℕ) (c : Dev nD) (l : ℕ) (h : b < 2 + 2 * l) : Above b (futOw c l) :=
  above_sum _ _ fun r hr => by
    rw [Finset.mem_Ico] at hr
    exact above_add (above_ag b c r 0 hr.2 (by omega)) (above_rs b c r 0 hr.2 (by omega))

/-- A wait below everything owed is admissible. -/
theorem may_wait (c : Dev nD) (s : SemLoc sig) (r : ℕ) (hr : r < 3) {O : CellTallies nD τ sig ℕ} (h : Above (lv ((c : Thread nD τ), s) r) O) :
    (levAts L lv : sProp 𝕄) ⊢ MayWait (c : Thread nD τ) s r O :=
  Pipeline.mayWait_of_levAts (by rw [L_tc]; exact Finset.mem_range.mpr hr) h

/-- What core `c` owes. -/
def Ow (c : Dev nD) (O : CellTallies nD τ sig ℕ) : sProp 𝕄 := iprop(∃ W, owes (c : Thread nD τ) O W)

/-! ## Records and tokens -/

/-- Every cell's invariant, and that every cell has reached its first round. -/
def records (K : Dev nD × Kind → ℕ) : sProp 𝕄 :=
  iprop((bigSep Finset.univ fun ck : Dev nD × Kind => cellInv ER (Rd xv pv) (K ck) (cell ck.1 ck.2))
    ∗ bigSep Finset.univ fun ck : Dev nD × Kind => reached ER (cell ck.1 ck.2) 0)

instance records_persistent (K : Dev nD × Kind → ℕ) : BI.Persistent (records xv pv K) := by unfold records; infer_instance

/-- One cell's invariant. -/
theorem inv_at (K : Dev nD × Kind → ℕ) (c : Dev nD) (k : Kind) : records xv pv K ⊢ cellInv ER (Rd xv pv) (K (c, k)) (cell c k) := by
  unfold records
  iintro ⟨H, -⟩
  iapply (belim (Finset.mem_univ (c, k)) : bigSep Finset.univ (fun ck : Dev nD × Kind => cellInv ER (Rd xv pv) (K ck) (cell ck.1 ck.2)) ⊢ _)
  iexact H
/-- Every cell has reached its first round. -/
theorem reached_at (K : Dev nD × Kind → ℕ) (c : Dev nD) (k : Kind) : records xv pv K ⊢ reached ER (cell c k) 0 := by
  unfold records
  iintro ⟨-, H⟩
  iapply (belim (Finset.mem_univ (c, k)) : bigSep Finset.univ (fun ck : Dev nD × Kind => (reached ER (cell ck.1 ck.2) 0 : sProp 𝕄)) ⊢ _)
  iexact H

/-- What the transfer of family `j` (0 or 2 at the sender, `j + 1` at the receiver) of layer `l` to offset `o` is paid with. -/
def sendTok (j j' : Fin 4) (c : Dev nD) (l : ℕ) (o : Fin 8) : sProp 𝕄 :=
  iprop(dutyTok ER (cell c (some (j, o))) l 0 ∗ dutyTok ER (cell (ofs c o) (some (j', o))) l 0)
/-- The credit core `c` waits for its block of family `j` with. -/
def recvTok (j : Fin 4) (c : Dev nD) (l : ℕ) (o : Fin 8) : sProp 𝕄 := cred (tallyAt (cell c (some (j, o))) l N)
/-- Core `c` stands at round `l` of its cell of family `j` at offset `o`. -/
def posAt (j : Fin 4) (c : Dev nD) (l : ℕ) (o : Fin 8) : sProp 𝕄 :=
  iprop(atPos ER (cell c (some (j, o))) l ∅ 0 ∗ reached ER (cell c (some (j, o))) l)

end Cert.KernelIdeal.Mlp

end
-- ==== Proof.KernelIdeal.Steps.lean ====
/-
  One lemma per kind of communication step: a barrier signal, the barrier wait, a transfer sent, a transfer waited for.
-/
module

public import proofs.«01_k».proof.Proof.KernelIdeal.Proto

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (xv : ℕ → Dev nD → S64x2048.Idx → Elt F .bf16) (pv : ℕ → Dev nD → S8x64x2048.Idx → Elt F .bf16)
variable (K : Dev nD × Kind → ℕ) (c : Dev nD)
variable {α : Type} {k : PUnit → Prog (TpuEff nD τ sig (Elt F) Λ₀ .tc) α} {Q : α → sProp (MT nD τ sig ℕ (Elt F) ℕ UU ℕ)}

/-! ## The barrier -/

/-- What `c` signals the device `o` places after it with: that device's barrier duty `o`, and the slot of `c` it will write. -/
def sgS (c : Dev nD) (o : Fin 8) : sProp 𝕄 := iprop(dutyTok ER (cell (ofs c o) none) 0 o ∗ XgPeer (ofs c o) 0 (neg o))

/-- One signal of the handshake is paid. -/
theorem sig_step (n : ℕ) (o : Fin 8) (ho : o.val = n + 1) (R : CellTallies nD τ sig ℕ) (dv : Dev nD) (hdv : dv = ofs c o) :
    iprop(records xv pv K ∗ Ow c (barOw c n + R) ∗ St (sgS c) (fun _ => iprop(emp)) n)
      ⊢ iprop(((Ow c (barOw c (n + 1) + R) ∗ St (sgS c) (fun _ => iprop(emp)) (n + 1)) -∗ WP c (k ⟨⟩) Q)
          -∗ WP c (.op (.semSignal (dv, .tc) barS (1#32).toInt) k) Q) := by
  subst hdv
  rw [show (1#32).toInt = ((1 : ℕ) : ℤ) from by decide]
  iintro ⟨#Hrec, HO, HS⟩ Hk
  ihave H := (St_open (sgS c) (fun _ => iprop(emp)) n o ho) $$ HS
  icases H with ⟨Ha, Hback⟩
  unfold sgS
  icases Ha with ⟨Htok, Hpay⟩
  unfold Ow
  icases HO with ⟨%W, HO⟩
  iapply (Rounds.wp_signal 𝒱₀ ER (Rd xv pv) (c : Thread nD τ) none (dst := (ofs c o : Thread nD τ)) (sem := barS) (r := 0) (κ := K (ofs c o, none))
      (d := o) (k' := 1) (by rw [show (((ofs c o : Dev nD) : Thread nD τ), SemLoc.reg barS) = cell (ofs c o) none from rfl, duties_bar, mem_todo]; omega)
      (Rd_amount xv pv (ofs c o) none 0 o) 0 (O₀ := barOw c n + R) (barOw c (n + 1) + R) (by rw [barOw_step c n o ho, add_right_comm]; rfl)) $$ [HO Htok Hpay]
  · isplitr; · iapply (inv_at xv pv K (ofs c o) none); iexact Hrec
    isplitl [HO]; · iexact HO
    isplitl [Htok]; · iexact Htok
    isplitl [Hpay]
    · iapply (Entails.of_eq (show XgPeer (ofs c o) 0 (neg o) = (Rd xv pv).payload (((ofs c o : Dev nD) : Thread nD τ), SemLoc.reg barS) 0 o from (Rd_payload xv pv (ofs c o) none 0 o).symm)); iexact Hpay
    iapply (reached_at xv pv K (ofs c o) none); iexact Hrec
  iintro HO
  iapply Hk
  isplitl [HO]; · iexists W; iexact HO
  iapply Hback
  iempintro

/-- The barrier is passed: every other device has given the slot that `c` writes to. -/
theorem bar_wait (O : CellTallies nD τ sig ℕ) (hO : Above 1 O) :
    iprop(records xv pv K ∗ levAts L lv ∗ Ow c O ∗ cred (tallyAt (cell c none) 0 7) ∗ atPos ER (cell c none) 0 ∅ 0)
      ⊢ iprop(((Ow c O ∗ atPos ER (cell c none) 1 ∅ 0 ∗ bigSep (todo 0) fun o => XgPeer c 0 o) -∗ WP c (k ⟨⟩) Q)
          -∗ WP c (.op (.semWait barS (7#32).toInt) k) Q) := by
  rw [show (7#32).toInt = ((7 : ℕ) : ℤ) from by decide]
  iintro ⟨#Hrec, #Hlev, HO, Hc, Hat⟩ Hk
  unfold Ow
  icases HO with ⟨%W, HO⟩
  iapply (Rounds.wp_wait_rest_token 𝒱₀ ER (Rd xv pv) (c : Thread nD τ) none (κ := K (c, none)) (sm := .reg barS) (k' := 7)
      (wpE_semWait_eq 𝒱₀ (c : Thread nD τ) none Set.univ) (Set.mem_univ _) 0 (O := O) (W := W) (R := 0) (m := 0) (T := ∅)
      (by rw [show (((c : Dev nD) : Thread nD τ), SemLoc.reg barS) = cell c none from rfl, expect_bar])) $$ [HO Hc Hat]
  · isplitr; · iapply (inv_at xv pv K c none); iexact Hrec
    isplitl [Hc]; · iexact Hc
    isplitl [HO]; · iexact HO
    isplitr; · iapply (may_wait c (.reg barS) 0 (by decide) (O := O) (by rw [show (((c : Dev nD) : Thread nD τ), SemLoc.reg barS) = cell c none from rfl, lv_cell]; exact hO)); iexact Hlev
    iexact Hat
  iintro ⟨HO, Hat, -, Hpay⟩
  iapply Hk
  isplitl [HO]; · iexists _; iexact HO
  isplitl [Hat]; · iexact Hat
  iapply (Entails.of_eq ((rest_bar xv pv c).trans (big_neg (fun o => XgPeer c 0 o))))
  iexact Hpay

/-! ## Transfers -/

/-- A transfer of a slot to the same offset's device. -/
theorem send_core (j j' : Fin 4) (l : ℕ) (hl : l < 3) (o : Fin 8) (ho : 0 < o.val) (Ms Md : Memref sig .tc .vmem S8x64x2048 .bf16) (bs bd : Fin 8) (q : PosShare TreeShare)
    (Y : S64x2048.Idx → Elt F .bf16) (G : sProp 𝕄) (O : CellTallies nD τ sig ℕ)
    (hN : (slot Md bd).view.amount (.dma (dsem j' o)) = N)
    (hp₁ : ownq c q (slot Ms bs) Y ⊢ payK xv pv c (some (j, o)) l 0)
    (hp₂ : iprop(own (ofs c o) (slot Md bd) Y ∗ G) ⊢ payK xv pv (ofs c o) (some (j', o)) l 0)
    {hsc : (slot Md bd : Memref sig (Dev.tc (ofs c o) : Thread nD τ).2.kind .vmem S64x2048 .bf16).view.ref.isScScratch = false}
    {hsrc : (slot Ms bs).view.WordExact} {hdst : (slot Md bd).view.WordExact}
    {hsem : DmaTarget.Typed .vmem (.dma (dsem j' o)) (.remote (Dev.tc (ofs c o) : Thread nD τ) (slot Md bd) (.dma (dsem j o)) hsc)} :
    iprop(records xv pv K ∗ ownq c q (slot Ms bs) Y ∗ ((∃ X, own (ofs c o) (slot Md bd) X) ∗ G)
        ∗ Ow c (O + tallyAt (cell (ofs c o) (some (j', o))) l N) ∗ sendTok j j' c l o
        ∗ reached ER (cell c (some (j, o))) l ∗ reached ER (cell (ofs c o) (some (j', o))) l)
      ⊢ iprop(((cred (tallyAt (cell c (some (j, o))) 0 N) ∗ Ow c O) -∗ WP c (k ⟨⟩) Q)
          -∗ WP c (.op (.enqueueDma (slot Ms bs) (.remote (Dev.tc (ofs c o) : Thread nD τ) (slot Md bd) (.dma (dsem j o)) hsc) (.dma (dsem j' o)) hsrc hdst hsem) k) Q) := by
  iintro ⟨#Hrec, Hsrc, ⟨⟨%X, Hdst⟩, HG⟩, HO, Htok, #Hr, #Hr'⟩ Hk
  unfold Ow sendTok
  icases HO with ⟨%W, HO⟩
  icases Htok with ⟨Ht, Ht'⟩
  unfold ownq owns at hp₁
  unfold own owns at hp₂
  unfold own ownq owns
  icases Hsrc with ⟨%fs, %hfs, Hsrc⟩
  icases Hdst with ⟨%fd, %hfd, Hdst⟩
  iapply (Rounds.wp_send_pointsTo_with 𝒱₀ ER (Rd xv pv) (c : Thread nD τ) none (κ₁ := K (c, some (j, o))) (κ₂ := K (ofs c o, some (j', o)))
    (c' := (ofs c o : Thread nD τ)) (src := slot Ms bs) (dst := slot Md bd) (hsc := hsc) (sS := .dma (dsem j o)) (sem := .dma (dsem j' o))
    (r₁ := l) (r₂ := l) (d₁ := 0) (d₂ := 0) (q := q) (fs := fs) (fd := fd) (F := G)
    (by rw [show (((c : Dev nD) : Thread nD τ), SemLoc.dma (dsem j o)) = cell c (some (j, o)) from rfl, duties_dma xv pv c j o l hl ho]; exact Finset.mem_singleton_self _)
    (by rw [show (((ofs c o : Dev nD) : Thread nD τ), SemLoc.dma (dsem j' o)) = cell (ofs c o) (some (j', o)) from rfl, duties_dma xv pv (ofs c o) j' o l hl ho]; exact Finset.mem_singleton_self _)
    l 0 N hN (Rd_amount xv pv c (some (j, o)) l 0) (Rd_amount xv pv (ofs c o) (some (j', o)) l 0) O rfl (W := W)
    ((by iintro H; iexists fs; isplitr; · ipureintro; exact hfs
         iexact H : (((slot Ms bs).view.loc (c : Thread nD τ) ↦[(slot Ms bs).view.set]{q} fs) : sProp 𝕄) ⊢ _).trans
      (hp₁.trans (Entails.of_eq (Rd_payload xv pv c (some (j, o)) l 0).symm)))
    ((by iintro ⟨H, HG⟩; isplitl [H]
         · iexists _; isplitr; swap; · iexact H
           ipureintro; rw [View.read_write_univ]; exact hfs
         iexact HG : iprop(((slot Md bd).view.loc (ofs c o : Thread nD τ) ↦[(slot Md bd).view.set]{fullShare} (slot Md bd).view.write (Elt F) fd ((slot Ms bs).view.read (Elt F) fs) Finset.univ) ∗ G) ⊢ _).trans
      (hp₂.trans (Entails.of_eq (Rd_payload xv pv (ofs c o) (some (j', o)) l 0).symm)))) $$ [Hsrc Hdst HG HO Ht Ht']
  · isplitr; · iapply (inv_at xv pv K c (some (j, o))); iexact Hrec
    isplitr; · iapply (inv_at xv pv K (ofs c o) (some (j', o))); iexact Hrec
    isplitl [Hsrc]; · iexact Hsrc
    isplitl [Hdst HG]
    · isplitl [Hdst]; · iexact Hdst
      iexact HG
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait for one transfer. -/
theorem wait_core (j : Fin 4) (l ι : ℕ) (hl : l < 3) (hι : ι < 3) (o : Fin 8) (ho : 0 < o.val) (O : CellTallies nD τ sig ℕ)
    (hO : Above (lv (cell c (some (j, o))) ι) O) (sem : DmaSem sig) (hs : sem = dsem j o)
    {sp : Space} {s : Shape} {e : EltTy} {src : Memref sig .tc sp s e} {dst : Memref sig .tc .vmem S64x2048 .bf16} (hN : dst.view.dmaCredit = N)
    {hsrc : src.view.WordExact} {hdst : dst.view.WordExact} :
    iprop(records xv pv K ∗ levAts L lv ∗ Ow c O ∗ cred (tallyAt (cell c (some (j, o))) ι N) ∗ atPos ER (cell c (some (j, o))) l ∅ 0)
      ⊢ iprop(((Ow c O ∗ posAt j c (l + 1) o ∗ payK xv pv c (some (j, o)) l 0) -∗ WP c (k ⟨⟩) Q)
          -∗ WP c (.op (.waitDma2 sem src dst hsrc hdst) k) Q) := by
  subst hs
  iintro ⟨#Hrec, #Hlev, HO, Hc, Hat⟩ Hk
  unfold Ow
  icases HO with ⟨%W, HO⟩
  iapply (Rounds.wp_wait_rest_token 𝒱₀ ER (Rd xv pv) (c : Thread nD τ) none (κ := K (c, some (j, o))) (sm := .dma (dsem j o)) (k' := N)
      (fun Kt => by rw [← hN]; exact wpE_waitDma2_eq 𝒱₀ (c : Thread nD τ) none Set.univ Kt) (Set.mem_univ _) ι (O := O) (W := W) (R := l) (m := 0) (T := ∅)
      (by rw [Nat.zero_add]; exact (expect_dma xv pv c j o l hl ho).symm)) $$ [HO Hc Hat]
  · isplitr; · iapply (inv_at xv pv K c (some (j, o))); iexact Hrec
    isplitl [Hc]; · iexact Hc
    isplitl [HO]; · iexact HO
    isplitr; · iapply (may_wait c (.dma (dsem j o)) ι hι (O := O) hO); iexact Hlev
    iexact Hat
  iintro ⟨HO, Hat, Hr, Hpay⟩
  iapply Hk
  isplitl [HO]; · iexists _; iexact HO
  isplitl [Hat Hr]
  · unfold posAt
    isplitl [Hat]; · iexact Hat
    iexact Hr
  iapply (Entails.of_eq (rest_dma xv pv c j o l hl ho))
  iexact Hpay

/-- A transfer between slots given by their offsets. -/
theorem send_step (j j' : Fin 4) (l : ℕ) (hl : l < 3) (o : Fin 8) (ho : 0 < o.val) (Ms Md : Memref sig .tc .vmem S8x64x2048 .bf16) (bs bd : Fin 8) (q : PosShare TreeShare)
    (Y : S64x2048.Idx → Elt F .bf16) (G : sProp (MT nD τ sig ℕ (Elt F) ℕ UU ℕ)) (O : CellTallies nD τ sig ℕ)
    (hp₁ : ownq c q (slot Ms bs) Y ⊢ payK xv pv c (some (j, o)) l 0)
    (hp₂ : iprop(own (ofs c o) (slot Md bd) Y ∗ G) ⊢ payK xv pv (ofs c o) (some (j', o)) l 0)
    (hN : (slot Md bd).view.amount (.dma (dsem j' o)) = N)
    {dv : Dev nD} (hdv : dv = ofs c o) {s s' : DmaSem sig} (hs : s = dsem j o) (hs' : s' = dsem j' o)
    {off off' : Fin 3 → ℕ} (hoff : off = ![bs.val, 0, 0]) (hoff' : off' = ![bd.val, 0, 0])
    {inb : ∀ a, off a + S1x64x2048.size a ≤ S8x64x2048.size a} {inb' : ∀ a, off' a + S1x64x2048.size a ≤ S8x64x2048.size a}
    {hu : ∀ a, (Rect.unit (s := S8x64x2048) off S1x64x2048.size inb).stride a = 1} {hu' : ∀ a, (Rect.unit (s := S8x64x2048) off' S1x64x2048.size inb').stride a = 1}
    {hsc : (((Md.slice (Rect.unit (s := S8x64x2048) off' S1x64x2048.size inb') hu').squeeze S64x2048 squeezes_S1x64x2048_S64x2048 : Memref sig .tc .vmem S64x2048 .bf16) :
      Memref sig (Dev.tc dv : Thread nD τ).2.kind .vmem S64x2048 .bf16).view.ref.isScScratch = false}
    {hsrc : ((Ms.slice (Rect.unit (s := S8x64x2048) off S1x64x2048.size inb) hu).squeeze S64x2048 squeezes_S1x64x2048_S64x2048).view.WordExact}
    {hdst : ((Md.slice (Rect.unit (s := S8x64x2048) off' S1x64x2048.size inb') hu').squeeze S64x2048 squeezes_S1x64x2048_S64x2048).view.WordExact}
    {hsem : DmaTarget.Typed .vmem (.dma s') (.remote (Dev.tc dv : Thread nD τ) ((Md.slice (Rect.unit (s := S8x64x2048) off' S1x64x2048.size inb') hu').squeeze S64x2048 squeezes_S1x64x2048_S64x2048) (.dma s) hsc)} :
    iprop(records xv pv K ∗ ownq c q (slot Ms bs) Y ∗ ((∃ X, own (ofs c o) (slot Md bd) X) ∗ G)
        ∗ Ow c (O + tallyAt (cell (ofs c o) (some (j', o))) l N) ∗ sendTok j j' c l o
        ∗ reached ER (cell c (some (j, o))) l ∗ reached ER (cell (ofs c o) (some (j', o))) l)
      ⊢ iprop(((cred (tallyAt (cell c (some (j, o))) 0 N) ∗ Ow c O) -∗ WP c (k ⟨⟩) Q)
          -∗ WP c (.op (.enqueueDma ((Ms.slice (Rect.unit (s := S8x64x2048) off S1x64x2048.size inb) hu).squeeze S64x2048 squeezes_S1x64x2048_S64x2048)
            (.remote (Dev.tc dv : Thread nD τ) ((Md.slice (Rect.unit (s := S8x64x2048) off' S1x64x2048.size inb') hu').squeeze S64x2048 squeezes_S1x64x2048_S64x2048) (.dma s) hsc)
            (.dma s') hsrc hdst hsem) k) Q) := by
  subst hdv hs hs' hoff hoff'
  exact send_core xv pv K c j j' l hl o ho Ms Md bs bd q Y G O hN hp₁ hp₂

/-- What `c` sends its block of layer `l` to offset `o` with: a share of it, the slot there, the tokens, and the slot that device may send its partial sum to. -/
def agS (c : Dev nD) (l : ℕ) (o : Fin 8) : sProp (MT nD τ sig ℕ (Elt F) ℕ UU ℕ) :=
  iprop(agsPay xv c l o ∗ XgPeer c l o ∗ sendTok 0 1 c l o ∗ reached ER (cell c (some (0, o))) l ∗ RsPeer (ofs c o) l (neg o))
/-- What `c` sends its partial sum for offset `o` with, and the slot for that device's next block. -/
def rsS (c : Dev nD) (l : ℕ) (o : Fin 8) : sProp (MT nD τ sig ℕ (Elt F) ℕ UU ℕ) :=
  iprop(own c (slot psM (ofs c o)) (slc (ofs c o) (pv l c)) ∗ RsPeer c l o ∗ sendTok 2 3 c l o ∗ reached ER (cell c (some (2, o))) l ∗ XgNext (ofs c o) l (neg o))
/-- The credit of a transfer under way. -/
def sent (j : Fin 4) (c : Dev nD) (o : Fin 8) : sProp (MT nD τ sig ℕ (Elt F) ℕ UU ℕ) := cred (tallyAt (cell c (some (j, o))) 0 N)

/-- `c`'s block is sent to one device, and with it the place for that device's partial sum. -/
theorem ag_send (l : ℕ) (hl : l < 3) (n : ℕ) (o : Fin 8) (ho : o.val = n + 1) (R : CellTallies nD τ sig ℕ)
    {dv : Dev nD} (hdv : dv = ofs c o) {s s' : DmaSem sig} (hs : s = dsem 0 o) (hs' : s' = dsem 1 o)
    {off : Fin 3 → ℕ} (hoff : off = ![c.val, 0, 0])
    {inb : ∀ a, off a + S1x64x2048.size a ≤ S8x64x2048.size a}
    {hu hu' : ∀ a, (Rect.unit (s := S8x64x2048) off S1x64x2048.size inb).stride a = 1}
    {hsc : (((xgM.slice (Rect.unit (s := S8x64x2048) off S1x64x2048.size inb) hu').squeeze S64x2048 squeezes_S1x64x2048_S64x2048 : Memref sig .tc .vmem S64x2048 .bf16) :
      Memref sig (Dev.tc dv : Thread nD τ).2.kind .vmem S64x2048 .bf16).view.ref.isScScratch = false}
    {hsrc : ((xgM.slice (Rect.unit (s := S8x64x2048) off S1x64x2048.size inb) hu).squeeze S64x2048 squeezes_S1x64x2048_S64x2048).view.WordExact}
    {hdst : ((xgM.slice (Rect.unit (s := S8x64x2048) off S1x64x2048.size inb) hu').squeeze S64x2048 squeezes_S1x64x2048_S64x2048).view.WordExact}
    {hsem : DmaTarget.Typed .vmem (.dma s') (.remote (Dev.tc dv : Thread nD τ) ((xgM.slice (Rect.unit (s := S8x64x2048) off S1x64x2048.size inb) hu').squeeze S64x2048 squeezes_S1x64x2048_S64x2048) (.dma s) hsc)} :
    iprop(records xv pv K ∗ Ow c (dmaOw 1 c l n + R) ∗ St (agS xv c l) (sent 0 c) n)
      ⊢ iprop(((Ow c (dmaOw 1 c l (n + 1) + R) ∗ St (agS xv c l) (sent 0 c) (n + 1)) -∗ WP c (k ⟨⟩) Q)
          -∗ WP c (.op (.enqueueDma ((xgM.slice (Rect.unit (s := S8x64x2048) off S1x64x2048.size inb) hu).squeeze S64x2048 squeezes_S1x64x2048_S64x2048)
            (.remote (Dev.tc dv : Thread nD τ) ((xgM.slice (Rect.unit (s := S8x64x2048) off S1x64x2048.size inb) hu').squeeze S64x2048 squeezes_S1x64x2048_S64x2048) (.dma s) hsc)
            (.dma s') hsrc hdst hsem) k) Q) := by
  iintro ⟨#Hrec, HO, HS⟩ Hk
  ihave H := (St_open (agS xv c l) (sent 0 c) n o ho) $$ HS
  icases H with ⟨Ha, Hback⟩
  ihave HO := (Entails.of_eq (congrArg (Ow (F := F) c) (show dmaOw 1 c l n + R = (dmaOw 1 c l (n + 1) + R) + tallyAt (cell (ofs c o) (some (1, o))) l N by
    rw [dmaOw_step 1 c l n o ho, add_right_comm]))) $$ HO
  unfold agS agsPay
  icases Ha with ⟨Hown, Hpeer, Htok, #Hr, HG⟩
  unfold XgPeer
  icases Hpeer with ⟨Hslot, #Hr'⟩
  iapply (send_step xv pv K c 0 1 l hl o (by omega) xgM xgM c c (shr o) (xv l c) (RsPeer (ofs c o) l (neg o)) (dmaOw 1 c l (n + 1) + R)
    (Entails.of_eq rfl) (Entails.of_eq (by show _ = agrPay xv (ofs c o) l o; unfold agrPay; rw [ofs_neg])) rfl hdv hs hs' hoff hoff) $$ [HO Hown Hslot Htok HG]
  · isplitr; · iexact Hrec
    isplitl [Hown]; · iexact Hown
    isplitl [Hslot HG]
    · isplitl [Hslot]; · iexact Hslot
      iexact HG
    isplitl [HO]; · iexact HO
    isplitl [Htok]; · iexact Htok
    isplitr; · iexact Hr
    iexact Hr'
  iintro ⟨Hc, HO⟩
  iapply Hk
  isplitl [HO]; · iexact HO
  iapply Hback
  unfold sent
  iexact Hc

/-- One device's partial sum is sent to it, and with it the place for its next block. -/
theorem rs_send (l : ℕ) (hl : l < 3) (n : ℕ) (o : Fin 8) (ho : o.val = n + 1) (R : CellTallies nD τ sig ℕ)
    {dv : Dev nD} (hdv : dv = ofs c o) {s s' : DmaSem sig} (hs : s = dsem 2 o) (hs' : s' = dsem 3 o)
    {off off' : Fin 3 → ℕ} (hoff : off = ![(ofs c o).val, 0, 0]) (hoff' : off' = ![c.val, 0, 0])
    {inb : ∀ a, off a + S1x64x2048.size a ≤ S8x64x2048.size a} {inb' : ∀ a, off' a + S1x64x2048.size a ≤ S8x64x2048.size a}
    {hu : ∀ a, (Rect.unit (s := S8x64x2048) off S1x64x2048.size inb).stride a = 1} {hu' : ∀ a, (Rect.unit (s := S8x64x2048) off' S1x64x2048.size inb').stride a = 1}
    {hsc : (((prM.slice (Rect.unit (s := S8x64x2048) off' S1x64x2048.size inb') hu').squeeze S64x2048 squeezes_S1x64x2048_S64x2048 : Memref sig .tc .vmem S64x2048 .bf16) :
      Memref sig (Dev.tc dv : Thread nD τ).2.kind .vmem S64x2048 .bf16).view.ref.isScScratch = false}
    {hsrc : ((psM.slice (Rect.unit (s := S8x64x2048) off S1x64x2048.size inb) hu).squeeze S64x2048 squeezes_S1x64x2048_S64x2048).view.WordExact}
    {hdst : ((prM.slice (Rect.unit (s := S8x64x2048) off' S1x64x2048.size inb') hu').squeeze S64x2048 squeezes_S1x64x2048_S64x2048).view.WordExact}
    {hsem : DmaTarget.Typed .vmem (.dma s') (.remote (Dev.tc dv : Thread nD τ) ((prM.slice (Rect.unit (s := S8x64x2048) off' S1x64x2048.size inb') hu').squeeze S64x2048 squeezes_S1x64x2048_S64x2048) (.dma s) hsc)} :
    iprop(records xv pv K ∗ Ow c (dmaOw 3 c l n + R) ∗ St (rsS pv c l) (sent 2 c) n)
      ⊢ iprop(((Ow c (dmaOw 3 c l (n + 1) + R) ∗ St (rsS pv c l) (sent 2 c) (n + 1)) -∗ WP c (k ⟨⟩) Q)
          -∗ WP c (.op (.enqueueDma ((psM.slice (Rect.unit (s := S8x64x2048) off S1x64x2048.size inb) hu).squeeze S64x2048 squeezes_S1x64x2048_S64x2048)
            (.remote (Dev.tc dv : Thread nD τ) ((prM.slice (Rect.unit (s := S8x64x2048) off' S1x64x2048.size inb') hu').squeeze S64x2048 squeezes_S1x64x2048_S64x2048) (.dma s) hsc)
            (.dma s') hsrc hdst hsem) k) Q) := by
  iintro ⟨#Hrec, HO, HS⟩ Hk
  ihave H := (St_open (rsS pv c l) (sent 2 c) n o ho) $$ HS
  icases H with ⟨Ha, Hback⟩
  ihave HO := (Entails.of_eq (congrArg (Ow (F := F) c) (show dmaOw 3 c l n + R = (dmaOw 3 c l (n + 1) + R) + tallyAt (cell (ofs c o) (some (3, o))) l N by
    rw [dmaOw_step 3 c l n o ho, add_right_comm]))) $$ HO
  unfold rsS
  icases Ha with ⟨Hown, Hpeer, Htok, #Hr, HG⟩
  unfold RsPeer
  icases Hpeer with ⟨Hslot, #Hr'⟩
  iapply (send_step xv pv K c 2 3 l hl o (by omega) psM prM (ofs c o) c fullShare (slc (ofs c o) (pv l c)) (XgNext (ofs c o) l (neg o)) (dmaOw 3 c l (n + 1) + R)
    (by show _ ⊢ rssPay c l o; unfold rssPay; iintro H; iexists _; iexact H) (Entails.of_eq (by show _ = rsrPay pv (ofs c o) l o; unfold rsrPay; rw [ofs_neg])) rfl hdv hs hs' hoff hoff') $$ [HO Hown Hslot Htok HG]
  · isplitr; · iexact Hrec
    isplitl [Hown]; · iexact Hown
    isplitl [Hslot HG]
    · isplitl [Hslot]; · iexact Hslot
      iexact HG
    isplitl [HO]; · iexact HO
    isplitl [Htok]; · iexact Htok
    isplitr; · iexact Hr
    iexact Hr'
  iintro ⟨Hc, HO⟩
  iapply Hk
  isplitl [HO]; · iexact HO
  iapply Hback
  unfold sent
  iexact Hc

/-- What a wait of family `j` at offset `o` starts from, its credit counted at `ι`. -/
def waitA (j : Fin 4) (c : Dev nD) (l ι : ℕ) (o : Fin 8) : sProp (MT nD τ sig ℕ (Elt F) ℕ UU ℕ) := iprop(cred (tallyAt (cell c (some (j, o))) ι N) ∗ posAt j c l o)
/-- What it leaves. -/
def waitB (j : Fin 4) (c : Dev nD) (l : ℕ) (o : Fin 8) : sProp (MT nD τ sig ℕ (Elt F) ℕ UU ℕ) := iprop(posAt j c (l + 1) o ∗ payK xv pv c (some (j, o)) l 0)

/-- One wait of a transfer cell: what the transfer hands over is taken. -/
theorem wait_step (j : Fin 4) (l ι : ℕ) (hl : l < 3) (hι : ι < 3) (O : CellTallies nD τ sig ℕ) (n : ℕ) (o : Fin 8) (ho : o.val = n + 1)
    (hO : ∀ o, Above (lv (cell c (some (j, o))) ι) O) {sem : DmaSem sig} (hs : sem = dsem j o)
    {sp : Space} {s : Shape} {e : EltTy} {src : Memref sig .tc sp s e} {dst : Memref sig .tc .vmem S64x2048 .bf16} (hN : dst.view.dmaCredit = N)
    {hsrc : src.view.WordExact} {hdst : dst.view.WordExact} :
    iprop(records xv pv K ∗ levAts L lv ∗ Ow c O ∗ St (waitA j c l ι) (waitB xv pv j c l) n)
      ⊢ iprop(((Ow c O ∗ St (waitA j c l ι) (waitB xv pv j c l) (n + 1)) -∗ WP c (k ⟨⟩) Q)
          -∗ WP c (.op (.waitDma2 sem src dst hsrc hdst) k) Q) := by
  iintro ⟨#Hrec, #Hlev, HO, HS⟩ Hk
  ihave H := (St_open (waitA j c l ι) (waitB xv pv j c l) n o ho) $$ HS
  icases H with ⟨Ha, Hback⟩
  unfold waitA posAt
  icases Ha with ⟨Hc, Hat, -⟩
  iapply (wait_core xv pv K c j l ι hl hι o (by omega) O (hO o) sem hs hN) $$ [HO Hc Hat]
  · isplitr; · iexact Hrec
    isplitr; · iexact Hlev
    isplitl [HO]; · iexact HO
    isplitl [Hc]; · iexact Hc
    iexact Hat
  iintro ⟨HO, Hpos, Hpay⟩
  iapply Hk
  isplitl [HO]; · iexact HO
  iapply Hback
  unfold waitB
  isplitl [Hpos]; · iexact Hpos
  iexact Hpay

end Cert.KernelIdeal.Mlp

end
-- ==== Proof.KernelIdeal.State.lean ====
/-
  The values the kernel computes, layer by layer, and what a device holds between the phases.
-/
module

public import proofs.«01_k».proof.Proof.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Iterated conjunctions -/

/-- Two families side by side are one. -/
theorem bzip {J : Type} [DecidableEq J] (s : Finset J) (Φ Ψ : J → sProp 𝕄) : iprop(bigSep s Φ ∗ bigSep s Ψ) ⊢ bigSep s fun i => iprop(Φ i ∗ Ψ i) :=
  Entails.of_eq (bigSep_sep' s Φ Ψ).symm
/-- One family of pairs is two families. -/
theorem bunzip {J : Type} [DecidableEq J] (s : Finset J) (Φ Ψ : J → sProp 𝕄) : (bigSep s fun i => iprop(Φ i ∗ Ψ i)) ⊢ iprop(bigSep s Φ ∗ bigSep s Ψ) :=
  Entails.of_eq (bigSep_sep' s Φ Ψ)
/-- What is persistent may be used at every summand. -/
theorem bwith {J : Type} [DecidableEq J] {s : Finset J} {R : sProp 𝕄} [BI.Persistent R] {Φ Ψ : J → sProp 𝕄}
    (h : ∀ i ∈ s, iprop(R ∗ Φ i) ⊢ Ψ i) : iprop(R ∗ bigSep s Φ) ⊢ bigSep s Ψ := BI.bigSep_with_persistent h

/-! ## Values -/

/-- What the kernel reads: each device's block of the input, and at layer `l` and block `k` of the hidden dimension its blocks of the two weights. -/
structure Inp (F : FTy → Type) where
  x0 : Dev nD → S64x2048.Idx → Elt F .f32
  w1 : ℕ → ℕ → Dev nD → S2048x512.Idx → Elt F .bf16
  w2 : ℕ → ℕ → Dev nD → S512x2048.Idx → Elt F .bf16

namespace Inp
variable (I : Inp F)

/-- The gathered input of a layer whose blocks are `x`. -/
def gat (x : Dev nD → S64x2048.Idx → Elt F .f32) : S8x64x2048.Idx → Elt F .bf16 := gath fun d => sq (k0_pay16 (x d))
/-- The sum of the partial products of layer `l` over the blocks `0 … k`, from the gathered input `X`. -/
def accOf (X : S8x64x2048.Idx → Elt F .bf16) (l : ℕ) (c : Dev nD) : ℕ → S512x2048.Idx → Elt F .f32
  | 0 => k0_pay3 X (I.w1 l 0 c) (I.w2 l 0 c)
  | k + 1 => k0_pay4 X (I.w1 l (k + 1) c) (I.w2 l (k + 1) c) (accOf X l c k)
/-- A device's whole partial product of layer `l`. -/
def parOf (X : S8x64x2048.Idx → Elt F .bf16) (l : ℕ) (c : Dev nD) : S8x64x2048.Idx → Elt F .bf16 :=
  k0_pay5 X (I.w1 l 7 c) (I.w2 l 7 c) (accOf I X l c 6)
/-- The sum of the eight devices' partial products at block `c`. -/
def sumOf (P : Dev nD → S8x64x2048.Idx → Elt F .bf16) (c : Dev nD) : S64x2048.Idx → Elt F .f32 :=
  k0_pay14 (k0_pay18 (win 0 (gath fun d => slc c (P d))) (win 1 (gath fun d => slc c (P d))) (win 2 (gath fun d => slc c (P d))))
    (k0_pay19 (win 3 (gath fun d => slc c (P d)))) (win 4 (gath fun d => slc c (P d))) (win 5 (gath fun d => slc c (P d)))
    (win 6 (gath fun d => slc c (P d))) (win 7 (gath fun d => slc c (P d)))
/-- The block of device `c` before layer `l`. -/
def xl : ℕ → Dev nD → S64x2048.Idx → Elt F .f32
  | 0, c => k0_pay1 (k0_pay15 (I.x0 c))
  | l + 1, c => sumOf (fun d => I.parOf (gat (xl l)) l d) c

/-- The block as it travels. -/
def xv (l : ℕ) (c : Dev nD) : S64x2048.Idx → Elt F .bf16 := sq (k0_pay16 (I.xl l c))
/-- The gathered input of layer `l`. -/
def xg (l : ℕ) : S8x64x2048.Idx → Elt F .bf16 := gath (I.xv l)
/-- The sum of the partial products of layer `l` up to block `k`. -/
def acc (l : ℕ) (c : Dev nD) (k : ℕ) : S512x2048.Idx → Elt F .f32 := I.accOf (I.xg l) l c k
/-- The partial product as it travels. -/
def pv (l : ℕ) (c : Dev nD) : S8x64x2048.Idx → Elt F .bf16 := I.parOf (I.xg l) l c

/-- A layer's result is the sum of the partial sums. -/
theorem xl_succ (l : ℕ) (c : Dev nD) : I.xl (l + 1) c = sumOf (fun d => I.pv l d) c := rfl
/-- One more block is added. -/
theorem acc_succ (l : ℕ) (c : Dev nD) (k : ℕ) : I.acc l c (k + 1) = k0_pay4 (I.xg l) (I.w1 l (k + 1) c) (I.w2 l (k + 1) c) (I.acc l c k) := rfl
end Inp

/-- Adding and dropping a leading unit axis changes nothing. -/
theorem sq_pay17 (w : S1x64x2048.Idx → Elt F .bf16) : sq (k0_pay17 w) = sq w := by
  unfold k0_pay17 sq
  funext y
  show shapeCast S1x64x2048 (shapeCast S64x2048 w _) _ _ = _
  unfold shapeCast
  simp only [Shape.reshapeEquiv_reshapeEquiv]

/-! ## What a device holds -/

variable (I : Inp F) (c : Dev nD)

/-- Something held at some contents. -/
abbrev any {s : Shape} {e : EltTy} (M : Memref sig .tc .vmem s e) : sProp 𝕄 := iprop(∃ X, own c M X)

def agTok (l : ℕ) : sProp 𝕄 := bigSep (todo 0) fun o => iprop(sendTok 0 1 c l o ∗ recvTok 1 c l o)
def rsTok (l : ℕ) : sProp 𝕄 := bigSep (todo 0) fun o => iprop(sendTok 2 3 c l o ∗ recvTok 3 c l o)
/-- The tokens and credits of the layers from `l` on. -/
def toks (l : ℕ) : sProp 𝕄 := bigSep (Finset.Ico l 3) fun r => iprop(agTok c r ∗ rsTok c r)
/-- The two families of the gather at round `a`, the two of the scatter at round `b`. -/
def posn (a b : ℕ) : sProp 𝕄 :=
  iprop((bigSep (todo 0) fun o => posAt 0 c a o) ∗ (bigSep (todo 0) fun o => posAt 1 c a o)
    ∗ (bigSep (todo 0) fun o => posAt 2 c b o) ∗ (bigSep (todo 0) fun o => posAt 3 c b o))
/-- The cells no transfer uses. -/
def idle4 : sProp 𝕄 := bigSep Finset.univ fun j : Fin 4 => (atPos ER (cell c (some (j, 0))) 0 ∅ 0 : sProp 𝕄)

/-- A layer's tokens, and those of the layers after it. -/
theorem toks_step (l : ℕ) (h : l < 3) : (toks c l : sProp 𝕄) = iprop((agTok c l ∗ rsTok c l) ∗ toks c (l + 1)) := by
  unfold toks
  rw [show Finset.Ico l 3 = insert l (Finset.Ico (l + 1) 3) from by ext; simp only [Finset.mem_insert, Finset.mem_Ico]; omega]
  exact bigSep_insert (by rw [Finset.mem_Ico]; omega)

/-- The gather buffer before layer `l`: the own slot and the peers' slots, while there is a layer to come. -/
def xgAt (l : ℕ) : sProp 𝕄 := if l < 3 then iprop(any c (slot xgM c) ∗ bigSep (todo 0) fun o => XgPeer c l o) else any c xgM

/-- At launch. -/
def S0 : sProp 𝕄 :=
  iprop(atPos ER (cell c none) 0 ∅ 0 ∗ cred (tallyAt (cell c none) 0 7) ∗ (bigSep (todo 0) fun o => dutyTok ER (cell (ofs c o) none) 0 o)
    ∗ idle4 c ∗ toks c 0 ∗ posn c 0 0 ∗ any c xcM ∗ any c xgM ∗ any c pM ∗ any c psM ∗ any c prM)
/-- Before the gather of layer `l`. -/
def SA (l : ℕ) : sProp 𝕄 :=
  iprop(atPos ER (cell c none) 1 ∅ 0 ∗ idle4 c ∗ toks c l ∗ posn c l l ∗ own c xcM (I.xl l c) ∗ xgAt c l ∗ any c psM ∗ any c prM)
/-- Between the gather and the scatter of layer `l`, the two product buffers apart. -/
def SB (l : ℕ) : sProp 𝕄 :=
  iprop(atPos ER (cell c none) 1 ∅ 0 ∗ idle4 c ∗ rsTok c l ∗ toks c (l + 1) ∗ posn c (l + 1) l ∗ own c xcM (I.xl l c) ∗ own c xgM (I.xg l)
    ∗ any c (slot prM c) ∗ bigSep (todo 0) fun o => RsPeer c l o)

end Cert.KernelIdeal.Mlp

end
-- ==== Proof.KernelIdeal.Prog.lean ====
/-
  The kernel's body at one grid point as a succession of phases, each a program followed by the rest: the barrier handshake, the
  all-gather, the two products of each layer, the reduce-scatter, and the output.
-/
module

public import proofs.«01_k».proof.Proof.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section phases

variable (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (arg10 : Memref sig .tc .vmem S64x2048 .f32) (harg10 : arg10.IsWhole) (arg11 : Memref sig .tc .vmem S8x64x2048 .bf16) (harg11 : arg11.IsWhole) (arg12 : Memref sig .tc .vmem S512x2048 .f32) (harg12 : arg12.IsWhole) (arg13 : Memref sig .tc .vmem S8x64x2048 .bf16) (harg13 : arg13.IsWhole) (arg14 : Memref sig .tc .vmem S8x64x2048 .bf16) (harg14 : arg14.IsWhole) (arg15 : DmaSems sig S8) (arg16 : DmaSems sig S8) (arg17 : DmaSems sig S8) (arg18 : DmaSems sig S8)

/-- The barrier handshake and the first load of the block. -/
def ph1 (d0 : Dev nD) (K : Prog (TpuEff nD τ sig (Elt F) Λ₀ .tc) PUnit) : Prog (TpuEff nD τ sig (Elt F) Λ₀ .tc) PUnit := do
  let v2 : BitVec 32 := Scalar.remsi (Scalar.divsi (Dev.word d0) 1#32) 8#32
  if k0_h1 : k0_cond1 i = 1#1 then do
    let ⟨v28, v57, v58, v59, c0_i32_37⟩ : Σ' (v28 : Sems sig S_) (v57 : BitVec 32) (v58 : BitVec 32) (v59 : BitVec 1), BitVec 32 ← k0_part1 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h1
    k0_part2 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h1 v28 v57 v58 v59 c0_i32_37
    let v121 : FVec F S64x2048 .f32 ← k0_part3 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h1 v28
    Prog.lift (.store arg10 (Rect.unit (s := S64x2048) ![0, 0] S64x2048.size inb_S64x2048_S64x2048_0_0) (k0_pay1 v121) Finset.univ (View.stores_vmem_bits_univ h_S64x2048 rfl) (.inl rfl))
    pure ⟨⟩
  else do
    pure ⟨⟩
  K

/-- The all-gather. -/
def ph2 (d0 : Dev nD) (K : Prog (TpuEff nD τ sig (Elt F) Λ₀ .tc) PUnit) : Prog (TpuEff nD τ sig (Elt F) Λ₀ .tc) PUnit := do
  let v2 : BitVec 32 := Scalar.remsi (Scalar.divsi (Dev.word d0) 1#32) 8#32
  if k0_h2 : k0_cond2 i = 1#1 then do
    let ⟨v57, v58, v59, v60⟩ : Σ' (v57 : BitVec 32) (v58 : BitVec 32) (v59 : BitVec 1), BitVec 1 ← k0_part4 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h2
    k0_part5 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h2 v57 v58 v59 v60
    let ⟨v128, c1_i32_82⟩ : Σ' (v128 : BitVec 32), BitVec 32 ← k0_part6 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h2
    let ⟨v160, v162⟩ : Σ' (v160 : BitVec 32), BitVec 32 ← k0_part7 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h2 v128 c1_i32_82
    k0_part8 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 k0_h2 v160 v162
    k0_part9 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part10 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 k0_h2
    k0_part11 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 k0_h2
    let v267 : DmaSems sig S1 := arg15.slice (Rect.unit (s := S8) ![6] S1.size inb_S8_S1_6)
    let v268 : DmaSems sig S_ := v267.squeeze S_ squeezes_S1_S_
    let v269 : Memref sig .tc .vmem S1x64x2048 .bf16 := arg11.slice (Rect.unit (s := S8x64x2048) (k0_off2 d0) S1x64x2048.size (k0_off2_inb i d0 k0_h2)) (fun _ => rfl)
    let v270 : Memref sig .tc .vmem S64x2048 .bf16 := v269.squeeze S64x2048 squeezes_S1x64x2048_S64x2048
    let v271 : Memref sig .tc .vmem S1x64x2048 .bf16 := arg11.slice (Rect.unit (s := S8x64x2048) (k0_off2 d0) S1x64x2048.size (k0_off2_inb i d0 k0_h2)) (fun _ => rfl)
    let v272 : Memref sig .tc .vmem S64x2048 .bf16 := v271.squeeze S64x2048 squeezes_S1x64x2048_S64x2048
    Prog.lift (.waitDma2 v268.sem v272 v270 ((harg11.wordExact_slice rfl _ (k0_off2_wordsbf16 i d0 k0_h2)).reshape _ _) ((harg11.wordExact_slice rfl _ (k0_off2_wordsbf16 i d0 k0_h2)).reshape _ _))
    let v273 : DmaSems sig S1 := arg15.slice (Rect.unit (s := S8) ![7] S1.size inb_S8_S1_7)
    let v274 : DmaSems sig S_ := v273.squeeze S_ squeezes_S1_S_
    let v275 : Memref sig .tc .vmem S1x64x2048 .bf16 := arg11.slice (Rect.unit (s := S8x64x2048) (k0_off2 d0) S1x64x2048.size (k0_off2_inb i d0 k0_h2)) (fun _ => rfl)
    let v276 : Memref sig .tc .vmem S64x2048 .bf16 := v275.squeeze S64x2048 squeezes_S1x64x2048_S64x2048
    let v277 : Memref sig .tc .vmem S1x64x2048 .bf16 := arg11.slice (Rect.unit (s := S8x64x2048) (k0_off2 d0) S1x64x2048.size (k0_off2_inb i d0 k0_h2)) (fun _ => rfl)
    let v278 : Memref sig .tc .vmem S64x2048 .bf16 := v277.squeeze S64x2048 squeezes_S1x64x2048_S64x2048
    Prog.lift (.waitDma2 v274.sem v278 v276 ((harg11.wordExact_slice rfl _ (k0_off2_wordsbf16 i d0 k0_h2)).reshape _ _) ((harg11.wordExact_slice rfl _ (k0_off2_wordsbf16 i d0 k0_h2)).reshape _ _))
    pure ⟨⟩
  else do
    pure ⟨⟩
  K

/-- The reduce-scatter. -/
def ph5 (d0 : Dev nD) (K : Prog (TpuEff nD τ sig (Elt F) Λ₀ .tc) PUnit) : Prog (TpuEff nD τ sig (Elt F) Λ₀ .tc) PUnit := do
  let v2 : BitVec 32 := Scalar.remsi (Scalar.divsi (Dev.word d0) 1#32) 8#32
  if k0_h15 : k0_cond15 i = 1#1 then do
    k0_part12 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15
    k0_part13 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15
    let ⟨v131, c8_i32_81⟩ : Σ' (v131 : BitVec 32), BitVec 32 ← k0_part14 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15
    let ⟨v165, v166⟩ : Σ' (v165 : BitVec 32), BitVec 32 ← k0_part15 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15 v131 c8_i32_81
    let ⟨v197, v198, v199, v200, c0_i32_128⟩ : Σ' (v197 : BitVec 32) (v198 : BitVec 32) (v199 : BitVec 1) (v200 : BitVec 1), BitVec 32 ← k0_part16 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15 v165 v166
    k0_part17 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15 v197 v198 v199 v200 c0_i32_128
    k0_part18 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 v2 k0_h15
    k0_part19 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part20 i arg2 harg2 arg3 harg3 arg4 harg4 arg5 harg5 arg6 harg6 arg7 harg7 arg8 harg8 arg9 harg9 arg10 harg10 arg11 harg11 arg12 harg12 arg13 harg13 arg14 harg14 arg15 arg16 arg17 arg18
    k0_part21 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 k0_h15
    let ⟨v367, v369⟩ : Σ' (v367 : FVec F S64x2048 .f32), FVec F S64x2048 .bf16 ← k0_part22 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 k0_h15
    let v372 : Vec F S1x64x2048 .bf16 ← Prog.lift (.load arg14 (Rect.unit (s := S8x64x2048) ![4, 0, 0] S1x64x2048.size inb_S8x64x2048_S1x64x2048_4_0_0).toLoadRect (View.loadsAt_vmem h_S1x64x2048))
    let v376 : Vec F S1x64x2048 .bf16 ← Prog.lift (.load arg14 (Rect.unit (s := S8x64x2048) ![5, 0, 0] S1x64x2048.size inb_S8x64x2048_S1x64x2048_5_0_0).toLoadRect (View.loadsAt_vmem h_S1x64x2048))
    let v380 : Vec F S1x64x2048 .bf16 ← Prog.lift (.load arg14 (Rect.unit (s := S8x64x2048) ![6, 0, 0] S1x64x2048.size inb_S8x64x2048_S1x64x2048_6_0_0).toLoadRect (View.loadsAt_vmem h_S1x64x2048))
    let v384 : Vec F S1x64x2048 .bf16 ← Prog.lift (.load arg14 (Rect.unit (s := S8x64x2048) ![7, 0, 0] S1x64x2048.size inb_S8x64x2048_S1x64x2048_7_0_0).toLoadRect (View.loadsAt_vmem h_S1x64x2048))
    let v388 : Vec F S64x2048 .f32 ← Prog.lift (.load arg10 (Rect.unit (s := S64x2048) ![0, 0] S64x2048.size inb_S64x2048_S64x2048_0_0).toLoadRect (View.loadsAt_vmem h_S64x2048))
    Prog.lift (.store arg10 (Rect.unit (s := S64x2048) ![0, 0] S64x2048.size inb_S64x2048_S64x2048_0_0) (k0_pay14 v367 v369 v372 v376 v380 v384) Finset.univ (View.stores_vmem_bits_univ h_S64x2048 rfl) (.inl rfl))
    pure ⟨⟩
  else do
    pure ⟨⟩
  K

/-- The output. -/
def ph6 (K : Prog (TpuEff nD τ sig (Elt F) Λ₀ .tc) PUnit) : Prog (TpuEff nD τ sig (Elt F) Λ₀ .tc) PUnit := do
  if k0_h16 : k0_cond16 i = 1#1 then do
    let v28 : Vec F S64x2048 .f32 ← Prog.lift (.load arg10 (Rect.unit (s := S64x2048) ![0, 0] S64x2048.size inb_S64x2048_S64x2048_0_0).toLoadRect (View.loadsAt_vmem h_S64x2048))
    let v29 : Vec F S64x2048 .f32 ← Prog.lift (.load arg9 (Rect.unit (s := S64x2048) ![0, 0] S64x2048.size inb_S64x2048_S64x2048_0_0).toLoadRect (View.loadsAt_vmem h_S64x2048))
    Prog.lift (.store arg9 (Rect.unit (s := S64x2048) ![0, 0] S64x2048.size inb_S64x2048_S64x2048_0_0) v28 Finset.univ (View.stores_vmem_bits_univ h_S64x2048 rfl) (.inl rfl))
    pure ⟨⟩
  else do
    pure ⟨⟩
  K

end phases

/-- Whether the word `w` is `n`, as a bit. -/
def isw (w n : BitVec 32) : BitVec 1 := Scalar.cmpi .ne (Scalar.extui (Scalar.cmpi .eq w n) : BitVec 32) 0#32

/-- The products of one layer at one block of the hidden dimension. -/
def comp (b : BitVec 1) (arg1 : BitVec 32) (arg3 : Memref sig .tc .vmem S2048x512 .bf16) (arg4 : Memref sig .tc .vmem S512x2048 .bf16) (arg11 : Memref sig .tc .vmem S8x64x2048 .bf16) (arg12 : Memref sig .tc .vmem S512x2048 .f32) (arg13 : Memref sig .tc .vmem S8x64x2048 .bf16) (harg13 : arg13.IsWhole) (K : Prog (TpuEff nD τ sig (Elt F) Λ₀ .tc) PUnit) : Prog (TpuEff nD τ sig (Elt F) Λ₀ .tc) PUnit := do
  if k0_h : b = 1#1 then do
    let v28 : Vec F S8x64x2048 .bf16 ← Prog.lift (.load arg11 (Rect.unit (s := S8x64x2048) ![0, 0, 0] S8x64x2048.size inb_S8x64x2048_S8x64x2048_0_0_0).toLoadRect (View.loadsAt_vmem h_S8x64x2048))
    let v30 : Vec F S2048x512 .bf16 ← Prog.lift (.load arg3 (Rect.unit (s := S2048x512) ![0, 0] S2048x512.size inb_S2048x512_S2048x512_0_0).toLoadRect (View.loadsAt_vmem h_S2048x512))
    let v36 : Vec F S512x2048 .bf16 ← Prog.lift (.load arg4 (Rect.unit (s := S512x2048) ![0, 0] S512x2048.size inb_S512x2048_S512x2048_0_0).toLoadRect (View.loadsAt_vmem h_S512x2048))
    let v39 : BitVec 1 := Scalar.cmpi .eq arg1 0#32
    let v40 : BitVec 32 := Scalar.extui v39
    let v41 : BitVec 1 := Scalar.cmpi .ne v40 0#32
    if k0_h4 : v41 = 1#1 then do
      let v50 : Vec F S512x2048 .f32 ← Prog.lift (.load arg12 (Rect.unit (s := S512x2048) ![0, 0] S512x2048.size inb_S512x2048_S512x2048_0_0).toLoadRect (View.loadsAt_vmem h_S512x2048))
      Prog.lift (.store arg12 (Rect.unit (s := S512x2048) ![0, 0] S512x2048.size inb_S512x2048_S512x2048_0_0) (k0_pay3 v28 v30 v36) Finset.univ (View.stores_vmem_bits_univ h_S512x2048 rfl) (.inl rfl))
      pure ⟨⟩
    else do
      pure ⟨⟩
    let v42 : BitVec 1 := Scalar.cmpi .sgt arg1 0#32
    let v43 : BitVec 1 := Scalar.cmpi .slt arg1 7#32
    let v44 : BitVec 1 := Scalar.andi v42 v43
    let v45 : BitVec 32 := Scalar.extui v44
    let v46 : BitVec 1 := Scalar.cmpi .ne v45 0#32
    if k0_h5 : v46 = 1#1 then do
      let v50 : Vec F S512x2048 .f32 ← Prog.lift (.load arg12 (Rect.unit (s := S512x2048) ![0, 0] S512x2048.size inb_S512x2048_S512x2048_0_0).toLoadRect (View.loadsAt_vmem h_S512x2048))
      let v52 : Vec F S512x2048 .f32 ← Prog.lift (.load arg12 (Rect.unit (s := S512x2048) ![0, 0] S512x2048.size inb_S512x2048_S512x2048_0_0).toLoadRect (View.loadsAt_vmem h_S512x2048))
      Prog.lift (.store arg12 (Rect.unit (s := S512x2048) ![0, 0] S512x2048.size inb_S512x2048_S512x2048_0_0) (k0_pay4 v28 v30 v36 v50) Finset.univ (View.stores_vmem_bits_univ h_S512x2048 rfl) (.inl rfl))
      pure ⟨⟩
    else do
      pure ⟨⟩
    let v47 : BitVec 1 := Scalar.cmpi .eq arg1 7#32
    let v48 : BitVec 32 := Scalar.extui v47
    let v49 : BitVec 1 := Scalar.cmpi .ne v48 0#32
    if k0_h6 : v49 = 1#1 then do
      let v50 : Vec F S512x2048 .f32 ← Prog.lift (.load arg12 (Rect.unit (s := S512x2048) ![0, 0] S512x2048.size inb_S512x2048_S512x2048_0_0).toLoadRect (View.loadsAt_vmem h_S512x2048))
      let v54 : Vec F S8x64x2048 .bf16 ← Prog.lift (.load arg13 (Rect.unit (s := S8x64x2048) ![0, 0, 0] S8x64x2048.size inb_S8x64x2048_S8x64x2048_0_0_0).toLoadRect (View.loadsAt_vmem h_S8x64x2048))
      Prog.lift (.store arg13 (Rect.unit (s := S8x64x2048) ![0, 0, 0] S8x64x2048.size inb_S8x64x2048_S8x64x2048_0_0_0) (k0_pay5 v28 v30 v36 v50) Finset.univ (View.stores_vmem h_S8x64x2048 (harg13.storeExact_slice rfl _ packedbf16_S8x64x2048_S8x64x2048_0_0_0) (fun _ => rfl)) (.inl rfl))
      pure ⟨⟩
    else do
      pure ⟨⟩
    pure ⟨⟩
  else do
    pure ⟨⟩
  K

set_option maxRecDepth 65536 in
/-- The body is its phases in succession. -/
theorem body_eq (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (arg10 : Memref sig .tc .vmem S64x2048 .f32) (harg10 : arg10.IsWhole) (arg11 : Memref sig .tc .vmem S8x64x2048 .bf16) (harg11 : arg11.IsWhole) (arg12 : Memref sig .tc .vmem S512x2048 .f32) (harg12 : arg12.IsWhole) (arg13 : Memref sig .tc .vmem S8x64x2048 .bf16) (harg13 : arg13.IsWhole) (arg14 : Memref sig .tc .vmem S8x64x2048 .bf16) (harg14 : arg14.IsWhole) (arg15 : DmaSems sig S8) (arg16 : DmaSems sig S8) (arg17 : DmaSems sig S8) (arg18 : DmaSems sig S8) :
    cc0_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 = .op .deviceId fun d0 =>
      ph1 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 (ph2 i arg2 harg2 arg3 harg3 arg4 harg4 arg5 harg5 arg6 harg6 arg7 harg7 arg8 harg8 arg9 harg9 arg10 harg10 arg11 harg11 arg12 harg12 arg13 harg13 arg14 harg14 arg15 arg16 arg17 arg18 d0
        (comp (isw (BitVec.ofNat 32 (i 0).val) 0#32) (BitVec.ofNat 32 (i 1).val) arg3 arg4 arg11 arg12 arg13 harg13
        (comp (isw (BitVec.ofNat 32 (i 0).val) 1#32) (BitVec.ofNat 32 (i 1).val) arg5 arg6 arg11 arg12 arg13 harg13
        (comp (isw (BitVec.ofNat 32 (i 0).val) 2#32) (BitVec.ofNat 32 (i 1).val) arg7 arg8 arg11 arg12 arg13 harg13
        (ph5 i arg2 harg2 arg3 harg3 arg4 harg4 arg5 harg5 arg6 harg6 arg7 harg7 arg8 harg8 arg9 harg9 arg10 harg10 arg11 harg11 arg12 harg12 arg13 harg13 arg14 harg14 arg15 arg16 arg17 arg18 d0 (ph6 i arg9 arg10 (pure ⟨⟩))))))) := by
  rw [cc0_body_eq_skeleton]; rfl

end Cert.KernelIdeal.Mlp

end
-- ==== Proof.KernelIdeal.Compute.lean ====
/-
  The two products of one layer at one block of the hidden dimension.
-/
module

public import proofs.«01_k».proof.Proof.KernelIdeal.State
public import proofs.«01_k».proof.Proof.KernelIdeal.Prog

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- Whether the word `w` lies strictly between 0 and 7, as a bit. -/
def ismid (w : BitVec 32) : BitVec 1 := Scalar.cmpi .ne (Scalar.extui (Scalar.andi (Scalar.cmpi .sgt w 0#32) (Scalar.cmpi .slt w 7#32)) : BitVec 32) 0#32

variable (c : Dev nD)
variable (b : BitVec 1) (w : BitVec 32) (arg3 : Memref sig .tc .vmem S2048x512 .bf16) (arg4 : Memref sig .tc .vmem S512x2048 .bf16) (harg13 : psM.IsWhole) (X : S8x64x2048.Idx → Elt F .bf16) (W1 : S2048x512.Idx → Elt F .bf16) (W2 : S512x2048.Idx → Elt F .bf16)
variable (P : Prog (TpuEff nD τ sig (Elt F) Λ₀ .tc) PUnit) (Q : PUnit → sProp (MT nD τ sig ℕ (Elt F) ℕ UU ℕ))

/-- A layer that is not the point's is passed over. -/
theorem comp_skip (hb : b ≠ 1#1) : (WP c P Q) ⊢ WP c (comp b w arg3 arg4 xgM pM psM harg13 P) Q := by
  unfold comp
  simp only [dif_neg hb]
  exact .rfl

/-- The first block of a layer starts the sum. -/
theorem comp_zero (hb : b = 1#1) (h0 : isw w 0#32 = 1#1) (hm : ismid w ≠ 1#1) (h7 : isw w 7#32 ≠ 1#1) :
    iprop(own c xgM X ∗ own c arg3 W1 ∗ own c arg4 W2 ∗ any c pM)
      ⊢ iprop(((own c xgM X ∗ own c arg3 W1 ∗ own c arg4 W2 ∗ own c pM (k0_pay3 X W1 W2)) -∗ WP c P Q) -∗ WP c (comp b w arg3 arg4 xgM pM psM harg13 P) Q) := by
  unfold isw at h0 h7
  unfold ismid at hm
  unfold comp
  simp only [dif_pos hb, dif_pos h0, dif_neg hm, dif_neg h7]
  simp only [Prog.lift, Prog.bind_op, Prog.bind_ret, Prog.pure_eq_ret]
  iintro ⟨Hx, H1, H2, ⟨%A, Hp⟩⟩ Hk
  iapply (load_full c xgM fullShare X) $$ [Hx]
  · iexact Hx
  iintro Hx
  iapply (load_full c arg3 fullShare W1) $$ [H1]
  · iexact H1
  iintro H1
  iapply (load_full c arg4 fullShare W2) $$ [H2]
  · iexact H2
  iintro H2
  iapply (load_full c pM fullShare A) $$ [Hp]
  · iexact Hp
  iintro Hp
  iapply (store_full c pM A) $$ [Hp]
  · iexact Hp
  iintro Hp
  iapply Hk
  isplitl [Hx]; · iexact Hx
  isplitl [H1]; · iexact H1
  isplitl [H2]; · iexact H2
  iexact Hp

/-- A block in between adds to the sum. -/
theorem comp_mid (A : S512x2048.Idx → Elt F .f32) (hb : b = 1#1) (h0 : isw w 0#32 ≠ 1#1) (hm : ismid w = 1#1) (h7 : isw w 7#32 ≠ 1#1) :
    iprop(own c xgM X ∗ own c arg3 W1 ∗ own c arg4 W2 ∗ own c pM A)
      ⊢ iprop(((own c xgM X ∗ own c arg3 W1 ∗ own c arg4 W2 ∗ own c pM (k0_pay4 X W1 W2 A)) -∗ WP c P Q) -∗ WP c (comp b w arg3 arg4 xgM pM psM harg13 P) Q) := by
  unfold isw at h0 h7
  unfold ismid at hm
  unfold comp
  simp only [dif_pos hb, dif_neg h0, dif_pos hm, dif_neg h7]
  simp only [Prog.lift, Prog.bind_op, Prog.bind_ret, Prog.pure_eq_ret]
  iintro ⟨Hx, H1, H2, Hp⟩ Hk
  iapply (load_full c xgM fullShare X) $$ [Hx]
  · iexact Hx
  iintro Hx
  iapply (load_full c arg3 fullShare W1) $$ [H1]
  · iexact H1
  iintro H1
  iapply (load_full c arg4 fullShare W2) $$ [H2]
  · iexact H2
  iintro H2
  iapply (load_full c pM fullShare A) $$ [Hp]
  · iexact Hp
  iintro Hp
  iapply (load_full c pM fullShare A) $$ [Hp]
  · iexact Hp
  iintro Hp
  iapply (store_full c pM A) $$ [Hp]
  · iexact Hp
  iintro Hp
  iapply Hk
  isplitl [Hx]; · iexact Hx
  isplitl [H1]; · iexact H1
  isplitl [H2]; · iexact H2
  iexact Hp

/-- The last block adds to the sum and hands it to the scatter. -/
theorem comp_last (A : S512x2048.Idx → Elt F .f32) (hb : b = 1#1) (h0 : isw w 0#32 ≠ 1#1) (hm : ismid w ≠ 1#1) (h7 : isw w 7#32 = 1#1) :
    iprop(own c xgM X ∗ own c arg3 W1 ∗ own c arg4 W2 ∗ own c pM A ∗ any c psM)
      ⊢ iprop(((own c xgM X ∗ own c arg3 W1 ∗ own c arg4 W2 ∗ own c pM A ∗ own c psM (k0_pay5 X W1 W2 A)) -∗ WP c P Q) -∗ WP c (comp b w arg3 arg4 xgM pM psM harg13 P) Q) := by
  unfold isw at h0 h7
  unfold ismid at hm
  unfold comp
  simp only [dif_pos hb, dif_neg h0, dif_neg hm, dif_pos h7]
  simp only [Prog.lift, Prog.bind_op, Prog.bind_ret, Prog.pure_eq_ret]
  iintro ⟨Hx, H1, H2, Hp, ⟨%B, Hs⟩⟩ Hk
  iapply (load_full c xgM fullShare X) $$ [Hx]
  · iexact Hx
  iintro Hx
  iapply (load_full c arg3 fullShare W1) $$ [H1]
  · iexact H1
  iintro H1
  iapply (load_full c arg4 fullShare W2) $$ [H2]
  · iexact H2
  iintro H2
  iapply (load_full c pM fullShare A) $$ [Hp]
  · iexact Hp
  iintro Hp
  iapply (load_full c psM fullShare B) $$ [Hs]
  · iexact Hs
  iintro Hs
  iapply (store_full c psM B) $$ [Hs]
  · iexact Hs
  iintro Hs
  iapply Hk
  isplitl [Hx]; · iexact Hx
  isplitl [H1]; · iexact H1
  isplitl [H2]; · iexact H2
  isplitl [Hp]; · iexact Hp
  iexact Hs

end Cert.KernelIdeal.Mlp

end
-- ==== Proof.KernelIdeal.Handshake.lean ====
/-
  The barrier handshake.
-/
module

public import proofs.«01_k».proof.Proof.KernelIdeal.State
public import proofs.«01_k».proof.Proof.KernelIdeal.Prog

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The kernel's device numbers, offsets and semaphores -/

/-- The device addressed by signal 1 is the one 1 place after `c`. -/
theorem dv1 (c : Dev nD) : k0_dev1 c = (ofs c 1).val := by revert c; decide +kernel
/-- The device addressed by signal 2 is the one 2 places after `c`. -/
theorem dv2 (c : Dev nD) : k0_dev2 c = (ofs c 2).val := by revert c; decide +kernel
/-- The device addressed by signal 3 is the one 3 places after `c`. -/
theorem dv3 (c : Dev nD) : k0_dev3 c = (ofs c 3).val := by revert c; decide +kernel
/-- The device addressed by signal 4 is the one 4 places after `c`. -/
theorem dv4 (c : Dev nD) : k0_dev4 c = (ofs c 4).val := by revert c; decide +kernel
/-- The device addressed by signal 5 is the one 5 places after `c`. -/
theorem dv5 (c : Dev nD) : k0_dev5 c = (ofs c 5).val := by revert c; decide +kernel
/-- The device addressed by signal 6 is the one 6 places after `c`. -/
theorem dv6 (c : Dev nD) : k0_dev6 c = (ofs c 6).val := by revert c; decide +kernel
/-- The device addressed by signal 7 is the one 7 places after `c`. -/
theorem dv7 (c : Dev nD) : k0_dev7 c = (ofs c 7).val := by revert c; decide +kernel
/-- The device addressed by gather copy 1 is the one 1 place after `c`. -/
theorem dv8 (c : Dev nD) : k0_dev8 c = (ofs c 1).val := by revert c; decide +kernel
/-- The device addressed by gather copy 2 is the one 2 places after `c`. -/
theorem dv9 (c : Dev nD) : k0_dev9 c = (ofs c 2).val := by revert c; decide +kernel
/-- The device addressed by gather copy 3 is the one 3 places after `c`. -/
theorem dv10 (c : Dev nD) : k0_dev10 c = (ofs c 3).val := by revert c; decide +kernel
/-- The device addressed by gather copy 4 is the one 4 places after `c`. -/
theorem dv11 (c : Dev nD) : k0_dev11 c = (ofs c 4).val := by revert c; decide +kernel
/-- The device addressed by gather copy 5 is the one 5 places after `c`. -/
theorem dv12 (c : Dev nD) : k0_dev12 c = (ofs c 5).val := by revert c; decide +kernel
/-- The device addressed by gather copy 6 is the one 6 places after `c`. -/
theorem dv13 (c : Dev nD) : k0_dev13 c = (ofs c 6).val := by revert c; decide +kernel
/-- The device addressed by gather copy 7 is the one 7 places after `c`. -/
theorem dv14 (c : Dev nD) : k0_dev14 c = (ofs c 7).val := by revert c; decide +kernel
/-- The device addressed by scatter copy 1 is the one 1 place after `c`. -/
theorem dv15 (c : Dev nD) : k0_dev15 c = (ofs c 1).val := by revert c; decide +kernel
/-- The device addressed by scatter copy 2 is the one 2 places after `c`. -/
theorem dv16 (c : Dev nD) : k0_dev16 c = (ofs c 2).val := by revert c; decide +kernel
/-- The device addressed by scatter copy 3 is the one 3 places after `c`. -/
theorem dv17 (c : Dev nD) : k0_dev17 c = (ofs c 3).val := by revert c; decide +kernel
/-- The device addressed by scatter copy 4 is the one 4 places after `c`. -/
theorem dv18 (c : Dev nD) : k0_dev18 c = (ofs c 4).val := by revert c; decide +kernel
/-- The device addressed by scatter copy 5 is the one 5 places after `c`. -/
theorem dv19 (c : Dev nD) : k0_dev19 c = (ofs c 5).val := by revert c; decide +kernel
/-- The device addressed by scatter copy 6 is the one 6 places after `c`. -/
theorem dv20 (c : Dev nD) : k0_dev20 c = (ofs c 6).val := by revert c; decide +kernel
/-- The device addressed by scatter copy 7 is the one 7 places after `c`. -/
theorem dv21 (c : Dev nD) : k0_dev21 c = (ofs c 7).val := by revert c; decide +kernel
/-- Scatter copy 1 reads the slot of the device it is addressed to. -/
theorem off5_1 (c : Dev nD) : k0_off5 c 1#32 = ![(ofs c 1).val, 0, 0] := by revert c; decide +kernel
/-- Scatter copy 2 reads the slot of the device it is addressed to. -/
theorem off5_2 (c : Dev nD) : k0_off5 c 2#32 = ![(ofs c 2).val, 0, 0] := by revert c; decide +kernel
/-- Scatter copy 3 reads the slot of the device it is addressed to. -/
theorem off5_3 (c : Dev nD) : k0_off5 c 3#32 = ![(ofs c 3).val, 0, 0] := by revert c; decide +kernel
/-- Scatter copy 4 reads the slot of the device it is addressed to. -/
theorem off5_4 (c : Dev nD) : k0_off5 c 4#32 = ![(ofs c 4).val, 0, 0] := by revert c; decide +kernel
/-- Scatter copy 5 reads the slot of the device it is addressed to. -/
theorem off5_5 (c : Dev nD) : k0_off5 c 5#32 = ![(ofs c 5).val, 0, 0] := by revert c; decide +kernel
/-- Scatter copy 6 reads the slot of the device it is addressed to. -/
theorem off5_6 (c : Dev nD) : k0_off5 c 6#32 = ![(ofs c 6).val, 0, 0] := by revert c; decide +kernel
/-- Scatter copy 7 reads the slot of the device it is addressed to. -/
theorem off5_7 (c : Dev nD) : k0_off5 c 7#32 = ![(ofs c 7).val, 0, 0] := by revert c; decide +kernel
/-- Element 1 of the semaphores of family 0. -/
theorem sem0_1 : ((cc0_scratch5.slice (Rect.unit (s := S8) ![1] S1.size inb_S8_S1_1) : DmaSems sig S1).squeeze S_ squeezes_S1_S_ : DmaSems sig S_).sem = dsem 0 1 := by decide +kernel
/-- Element 2 of the semaphores of family 0. -/
theorem sem0_2 : ((cc0_scratch5.slice (Rect.unit (s := S8) ![2] S1.size inb_S8_S1_2) : DmaSems sig S1).squeeze S_ squeezes_S1_S_ : DmaSems sig S_).sem = dsem 0 2 := by decide +kernel
/-- Element 3 of the semaphores of family 0. -/
theorem sem0_3 : ((cc0_scratch5.slice (Rect.unit (s := S8) ![3] S1.size inb_S8_S1_3) : DmaSems sig S1).squeeze S_ squeezes_S1_S_ : DmaSems sig S_).sem = dsem 0 3 := by decide +kernel
/-- Element 4 of the semaphores of family 0. -/
theorem sem0_4 : ((cc0_scratch5.slice (Rect.unit (s := S8) ![4] S1.size inb_S8_S1_4) : DmaSems sig S1).squeeze S_ squeezes_S1_S_ : DmaSems sig S_).sem = dsem 0 4 := by decide +kernel
/-- Element 5 of the semaphores of family 0. -/
theorem sem0_5 : ((cc0_scratch5.slice (Rect.unit (s := S8) ![5] S1.size inb_S8_S1_5) : DmaSems sig S1).squeeze S_ squeezes_S1_S_ : DmaSems sig S_).sem = dsem 0 5 := by decide +kernel
/-- Element 6 of the semaphores of family 0. -/
theorem sem0_6 : ((cc0_scratch5.slice (Rect.unit (s := S8) ![6] S1.size inb_S8_S1_6) : DmaSems sig S1).squeeze S_ squeezes_S1_S_ : DmaSems sig S_).sem = dsem 0 6 := by decide +kernel
/-- Element 7 of the semaphores of family 0. -/
theorem sem0_7 : ((cc0_scratch5.slice (Rect.unit (s := S8) ![7] S1.size inb_S8_S1_7) : DmaSems sig S1).squeeze S_ squeezes_S1_S_ : DmaSems sig S_).sem = dsem 0 7 := by decide +kernel
/-- Element 1 of the semaphores of family 1. -/
theorem sem1_1 : ((cc0_scratch6.slice (Rect.unit (s := S8) ![1] S1.size inb_S8_S1_1) : DmaSems sig S1).squeeze S_ squeezes_S1_S_ : DmaSems sig S_).sem = dsem 1 1 := by decide +kernel
/-- Element 2 of the semaphores of family 1. -/
theorem sem1_2 : ((cc0_scratch6.slice (Rect.unit (s := S8) ![2] S1.size inb_S8_S1_2) : DmaSems sig S1).squeeze S_ squeezes_S1_S_ : DmaSems sig S_).sem = dsem 1 2 := by decide +kernel
/-- Element 3 of the semaphores of family 1. -/
theorem sem1_3 : ((cc0_scratch6.slice (Rect.unit (s := S8) ![3] S1.size inb_S8_S1_3) : DmaSems sig S1).squeeze S_ squeezes_S1_S_ : DmaSems sig S_).sem = dsem 1 3 := by decide +kernel
/-- Element 4 of the semaphores of family 1. -/
theorem sem1_4 : ((cc0_scratch6.slice (Rect.unit (s := S8) ![4] S1.size inb_S8_S1_4) : DmaSems sig S1).squeeze S_ squeezes_S1_S_ : DmaSems sig S_).sem = dsem 1 4 := by decide +kernel
/-- Element 5 of the semaphores of family 1. -/
theorem sem1_5 : ((cc0_scratch6.slice (Rect.unit (s := S8) ![5] S1.size inb_S8_S1_5) : DmaSems sig S1).squeeze S_ squeezes_S1_S_ : DmaSems sig S_).sem = dsem 1 5 := by decide +kernel
/-- Element 6 of the semaphores of family 1. -/
theorem sem1_6 : ((cc0_scratch6.slice (Rect.unit (s := S8) ![6] S1.size inb_S8_S1_6) : DmaSems sig S1).squeeze S_ squeezes_S1_S_ : DmaSems sig S_).sem = dsem 1 6 := by decide +kernel
/-- Element 7 of the semaphores of family 1. -/
theorem sem1_7 : ((cc0_scratch6.slice (Rect.unit (s := S8) ![7] S1.size inb_S8_S1_7) : DmaSems sig S1).squeeze S_ squeezes_S1_S_ : DmaSems sig S_).sem = dsem 1 7 := by decide +kernel
/-- Element 1 of the semaphores of family 2. -/
theorem sem2_1 : ((cc0_scratch7.slice (Rect.unit (s := S8) ![1] S1.size inb_S8_S1_1) : DmaSems sig S1).squeeze S_ squeezes_S1_S_ : DmaSems sig S_).sem = dsem 2 1 := by decide +kernel
/-- Element 2 of the semaphores of family 2. -/
theorem sem2_2 : ((cc0_scratch7.slice (Rect.unit (s := S8) ![2] S1.size inb_S8_S1_2) : DmaSems sig S1).squeeze S_ squeezes_S1_S_ : DmaSems sig S_).sem = dsem 2 2 := by decide +kernel
/-- Element 3 of the semaphores of family 2. -/
theorem sem2_3 : ((cc0_scratch7.slice (Rect.unit (s := S8) ![3] S1.size inb_S8_S1_3) : DmaSems sig S1).squeeze S_ squeezes_S1_S_ : DmaSems sig S_).sem = dsem 2 3 := by decide +kernel
/-- Element 4 of the semaphores of family 2. -/
theorem sem2_4 : ((cc0_scratch7.slice (Rect.unit (s := S8) ![4] S1.size inb_S8_S1_4) : DmaSems sig S1).squeeze S_ squeezes_S1_S_ : DmaSems sig S_).sem = dsem 2 4 := by decide +kernel
/-- Element 5 of the semaphores of family 2. -/
theorem sem2_5 : ((cc0_scratch7.slice (Rect.unit (s := S8) ![5] S1.size inb_S8_S1_5) : DmaSems sig S1).squeeze S_ squeezes_S1_S_ : DmaSems sig S_).sem = dsem 2 5 := by decide +kernel
/-- Element 6 of the semaphores of family 2. -/
theorem sem2_6 : ((cc0_scratch7.slice (Rect.unit (s := S8) ![6] S1.size inb_S8_S1_6) : DmaSems sig S1).squeeze S_ squeezes_S1_S_ : DmaSems sig S_).sem = dsem 2 6 := by decide +kernel
/-- Element 7 of the semaphores of family 2. -/
theorem sem2_7 : ((cc0_scratch7.slice (Rect.unit (s := S8) ![7] S1.size inb_S8_S1_7) : DmaSems sig S1).squeeze S_ squeezes_S1_S_ : DmaSems sig S_).sem = dsem 2 7 := by decide +kernel
/-- Element 1 of the semaphores of family 3. -/
theorem sem3_1 : ((cc0_scratch8.slice (Rect.unit (s := S8) ![1] S1.size inb_S8_S1_1) : DmaSems sig S1).squeeze S_ squeezes_S1_S_ : DmaSems sig S_).sem = dsem 3 1 := by decide +kernel
/-- Element 2 of the semaphores of family 3. -/
theorem sem3_2 : ((cc0_scratch8.slice (Rect.unit (s := S8) ![2] S1.size inb_S8_S1_2) : DmaSems sig S1).squeeze S_ squeezes_S1_S_ : DmaSems sig S_).sem = dsem 3 2 := by decide +kernel
/-- Element 3 of the semaphores of family 3. -/
theorem sem3_3 : ((cc0_scratch8.slice (Rect.unit (s := S8) ![3] S1.size inb_S8_S1_3) : DmaSems sig S1).squeeze S_ squeezes_S1_S_ : DmaSems sig S_).sem = dsem 3 3 := by decide +kernel
/-- Element 4 of the semaphores of family 3. -/
theorem sem3_4 : ((cc0_scratch8.slice (Rect.unit (s := S8) ![4] S1.size inb_S8_S1_4) : DmaSems sig S1).squeeze S_ squeezes_S1_S_ : DmaSems sig S_).sem = dsem 3 4 := by decide +kernel
/-- Element 5 of the semaphores of family 3. -/
theorem sem3_5 : ((cc0_scratch8.slice (Rect.unit (s := S8) ![5] S1.size inb_S8_S1_5) : DmaSems sig S1).squeeze S_ squeezes_S1_S_ : DmaSems sig S_).sem = dsem 3 5 := by decide +kernel
/-- Element 6 of the semaphores of family 3. -/
theorem sem3_6 : ((cc0_scratch8.slice (Rect.unit (s := S8) ![6] S1.size inb_S8_S1_6) : DmaSems sig S1).squeeze S_ squeezes_S1_S_ : DmaSems sig S_).sem = dsem 3 6 := by decide +kernel
/-- Element 7 of the semaphores of family 3. -/
theorem sem3_7 : ((cc0_scratch8.slice (Rect.unit (s := S8) ![7] S1.size inb_S8_S1_7) : DmaSems sig S1).squeeze S_ squeezes_S1_S_ : DmaSems sig S_).sem = dsem 3 7 := by decide +kernel

variable (I : Inp F) (K : Dev nD × Kind → ℕ) (c : Dev nD)
variable (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (harg10 : xcM.IsWhole) (harg11 : xgM.IsWhole) (harg12 : pM.IsWhole) (harg13 : psM.IsWhole) (harg14 : prM.IsWhole)

/-- Every slot's transfer is counted alike. -/
theorem credit_eq (M : Memref sig .tc .vmem S8x64x2048 .bf16) {off : Fin 3 → ℕ} {inb : ∀ a, off a + S1x64x2048.size a ≤ S8x64x2048.size a}
    {hu : ∀ a, (Rect.unit (s := S8x64x2048) off S1x64x2048.size inb).stride a = 1} :
    ((M.slice (Rect.unit (s := S8x64x2048) off S1x64x2048.size inb) hu).squeeze S64x2048 squeezes_S1x64x2048_S64x2048).view.dmaCredit = N := rfl

/-- The own slot of the gather buffer and the others', each with the round its arrivals are waited at. -/
theorem xg_deal (X : S8x64x2048.Idx → Elt F .bf16) :
    iprop(records I.xv I.pv K ∗ own c xgM X ∗ bigSep (todo 0) fun o => dutyTok ER (cell (ofs c o) none) 0 o)
      ⊢ iprop((∃ Y, own c (slot xgM c) Y) ∗ bigSep (todo 0) fun o => sgS (F := F) c o) := by
  iintro ⟨#Hrec, Hx, Ht⟩
  ihave Hx := (own_split c xgM X) $$ Hx
  ihave Hx := (Entails.of_eq (big_from c fun b => own c (slot xgM b) (slc b X))) $$ Hx
  icases Hx with ⟨Hc, Hx⟩
  isplitl [Hc]; · iexists _; iexact Hc
  have e : iprop(records I.xv I.pv K ∗ bigSep (todo 0) fun o => iprop(dutyTok ER (cell (ofs c o) none) 0 o ∗ own c (slot xgM (ofs c o)) (slc (ofs c o) X)))
      ⊢ bigSep (todo 0) fun o => sgS (F := F) c o :=
    bwith fun o _ => by
      unfold sgS XgPeer
      iintro ⟨#Hrec, Ht, Hx⟩
      isplitl [Ht]; · iexact Ht
      iapply (Entails.of_eq (show iprop((∃ X, own c (slot xgM (ofs c o)) X) ∗ reached ER (cell c (some (1, neg o))) 0)
        = iprop((∃ X, own (ofs (ofs c o) (neg o)) (slot xgM (ofs c o)) X) ∗ reached ER (cell (ofs (ofs c o) (neg o)) (some (1, neg o))) 0) from by rw [ofs_neg]))
      isplitl [Hx]; · iexists _; iexact Hx
      iapply (reached_at I.xv I.pv K c (some (1, neg o))); iexact Hrec
  iapply e
  isplitr; · iexact Hrec
  iapply (bzip (todo 0) (fun o => dutyTok ER (cell (ofs c o) none) 0 o) (fun o => own c (slot xgM (ofs c o)) (slc (ofs c o) X)))
  isplitl [Ht]; · iexact Ht
  iexact Hx

/-- The handshake: every device tells the others that their slots may be written, waits for theirs, and loads its block. -/
theorem ph1_spec (h1 : k0_cond1 i = 1#1) (P : Prog (TpuEff nD τ sig (Elt F) Λ₀ .tc) PUnit) (Q : PUnit → sProp (MT nD τ sig ℕ (Elt F) ℕ UU ℕ)) :
    iprop(records I.xv I.pv K ∗ levAts L lv ∗ S0 c ∗ Ow c (barOw c 0 + futOw c 0) ∗ own c arg2 (I.x0 c))
      ⊢ iprop(((SA I c 0 ∗ any c pM ∗ Ow c (futOw c 0) ∗ own c arg2 (I.x0 c)) -∗ WP c P Q)
          -∗ WP c (ph1 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q) := by
  unfold ph1
  simp only [dif_pos h1, k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret]
  unfold S0
  iintro ⟨#Hrec, #Hlev, ⟨Hbar, Hcr, Hduty, Hidle, Htok, Hpos, ⟨%xc, Hxc⟩, ⟨%xg, Hxg⟩, Hp, Hps, Hpr⟩, HO, Hx⟩ Hk
  ihave Hd := (xg_deal I K c xg) $$ [Hxg Hduty]
  · isplitr; · iexact Hrec
    isplitl [Hxg]; · iexact Hxg
    iexact Hduty
  icases Hd with ⟨Hown, Hsg⟩
  ihave Hsg := (St_start (sgS c) (fun _ => iprop(emp))) $$ Hsg
  iapply (sig_step I.xv I.pv K c 0 1 rfl (futOw c 0) _ (Fin.ext (dv1 c))) $$ [HO Hsg]
  · isplitr; · iexact Hrec
    isplitl [HO]; · iexact HO
    iexact Hsg
  iintro ⟨HO, Hsg⟩
  iapply (sig_step I.xv I.pv K c 1 2 rfl (futOw c 0) _ (Fin.ext (dv2 c))) $$ [HO Hsg]
  · isplitr; · iexact Hrec
    isplitl [HO]; · iexact HO
    iexact Hsg
  iintro ⟨HO, Hsg⟩
  iapply (sig_step I.xv I.pv K c 2 3 rfl (futOw c 0) _ (Fin.ext (dv3 c))) $$ [HO Hsg]
  · isplitr; · iexact Hrec
    isplitl [HO]; · iexact HO
    iexact Hsg
  iintro ⟨HO, Hsg⟩
  iapply (sig_step I.xv I.pv K c 3 4 rfl (futOw c 0) _ (Fin.ext (dv4 c))) $$ [HO Hsg]
  · isplitr; · iexact Hrec
    isplitl [HO]; · iexact HO
    iexact Hsg
  iintro ⟨HO, Hsg⟩
  iapply (sig_step I.xv I.pv K c 4 5 rfl (futOw c 0) _ (Fin.ext (dv5 c))) $$ [HO Hsg]
  · isplitr; · iexact Hrec
    isplitl [HO]; · iexact HO
    iexact Hsg
  iintro ⟨HO, Hsg⟩
  iapply (sig_step I.xv I.pv K c 5 6 rfl (futOw c 0) _ (Fin.ext (dv6 c))) $$ [HO Hsg]
  · isplitr; · iexact Hrec
    isplitl [HO]; · iexact HO
    iexact Hsg
  iintro ⟨HO, Hsg⟩
  iapply (sig_step I.xv I.pv K c 6 7 rfl (futOw c 0) _ (Fin.ext (dv7 c))) $$ [HO Hsg]
  · isplitr; · iexact Hrec
    isplitl [HO]; · iexact HO
    iexact Hsg
  iintro ⟨HO, Hsg⟩
  ihave HO := (Entails.of_eq (congrArg (Ow (F := F) c) (show barOw c 7 + futOw c 0 = futOw c 0 by rw [barOw_end, zero_add]))) $$ HO
  iapply (bar_wait I.xv I.pv K c (futOw c 0) (above_fut 1 c 0 (by decide))) $$ [HO Hcr Hbar]
  · isplitr; · iexact Hrec
    isplitr; · iexact Hlev
    isplitl [HO]; · iexact HO
    isplitl [Hcr]; · iexact Hcr
    iexact Hbar
  iintro ⟨HO, Hbar, Hpeer⟩
  iapply (load_full c arg2 fullShare (I.x0 c)) $$ [Hx]
  · iexact Hx
  iintro Hx
  iapply (load_full c xcM fullShare xc) $$ [Hxc]
  · iexact Hxc
  iintro Hxc
  iapply (store_full c xcM xc) $$ [Hxc]
  · iexact Hxc
  iintro Hxc
  iapply Hk
  isplitr [Hp HO Hx]
  · unfold SA xgAt
    rw [if_pos (show 0 < 3 by decide)]
    isplitl [Hbar]; · iexact Hbar
    isplitl [Hidle]; · iexact Hidle
    isplitl [Htok]; · iexact Htok
    isplitl [Hpos]; · iexact Hpos
    isplitl [Hxc]; · iexact Hxc
    isplitl [Hown Hpeer]
    · isplitl [Hown]; · iexact Hown
      iexact Hpeer
    isplitl [Hps]; · iexact Hps
    iexact Hpr
  isplitl [Hp]; · iexact Hp
  isplitl [HO]; · iexact HO
  iexact Hx

end Cert.KernelIdeal.Mlp

end
-- ==== Proof.KernelIdeal.Gather.lean ====
/-
  The all-gather of one layer.
-/
module

public import proofs.«01_k».proof.Proof.KernelIdeal.Handshake

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Kind → ℕ) (c : Dev nD)
variable (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (harg10 : xcM.IsWhole) (harg11 : xgM.IsWhole) (harg12 : pM.IsWhole) (harg13 : psM.IsWhole) (harg14 : prM.IsWhole)

/-- Who stands before a round has reached it, for all the transfer cells. -/
theorem posn_reached (a b : ℕ) : (posn c a b : sProp 𝕄) ⊢ iprop((bigSep (todo 0) fun o => reached ER (cell c (some (0, o))) a) ∗ (bigSep (todo 0) fun o => reached ER (cell c (some (1, o))) a)
    ∗ (bigSep (todo 0) fun o => reached ER (cell c (some (2, o))) b) ∗ (bigSep (todo 0) fun o => reached ER (cell c (some (3, o))) b)) := by
  have h (j : Fin 4) (r : ℕ) : (bigSep (todo 0) fun o => (posAt j c r o : sProp 𝕄)) ⊢ bigSep (todo 0) fun o => reached ER (cell c (some (j, o))) r :=
    bmono fun o _ => by
      unfold posAt
      iintro ⟨-, H⟩
      iexact H
  unfold posn
  iintro ⟨H0, H1, H2, H3⟩
  isplitl [H0]; · iapply (h 0 a); iexact H0
  isplitl [H1]; · iapply (h 1 a); iexact H1
  isplitl [H2]; · iapply (h 2 b); iexact H2
  iapply (h 3 b); iexact H3

/-- Everything the sends of the gather of layer `l` are made with. -/
theorem ag_deal (l : ℕ) (X : S8x64x2048.Idx → Elt F .bf16) :
    iprop(own c (slot xgM c) (I.xv l c) ∗ (bigSep (todo 0) fun o => XgPeer c l o) ∗ agTok c l ∗ own c prM X
        ∗ (bigSep (todo 0) fun o => reached ER (cell c (some (0, o))) l) ∗ (bigSep (todo 0) fun o => reached ER (cell c (some (3, o))) l))
      ⊢ iprop((bigSep (todo 0) fun o => agS I.xv c l o) ∗ any c (slot prM c) ∗ bigSep (todo 0) fun o => recvTok 1 c l o) := by
  iintro ⟨Hx, Hpeer, Htok, Hpr, Hr0, Hr3⟩
  ihave Hx := (own_deal c (slot xgM c) (I.xv l c)) $$ Hx
  ihave Hpr := (own_split c prM X) $$ Hpr
  ihave Hpr := (Entails.of_eq (big_from c fun b => own c (slot prM b) (slc b X))) $$ Hpr
  icases Hpr with ⟨Hprc, Hpr⟩
  unfold agTok
  ihave Htok := (bunzip (todo 0) (fun o => sendTok 0 1 c l o) (fun o => recvTok 1 c l o)) $$ Htok
  icases Htok with ⟨Hs, Hrv⟩
  isplitr [Hprc Hrv]; swap
  · isplitl [Hprc]; · iexists _; iexact Hprc
    iexact Hrv
  ihave Hr3 := (Entails.of_eq (big_neg fun o => (reached ER (cell c (some (3, o))) l : sProp 𝕄)).symm) $$ Hr3
  ihave H1 := (bzip (todo 0) (fun o => ownq c (shr o) (slot xgM c) (I.xv l c)) (fun o => XgPeer c l o)) $$ [Hx Hpeer]
  · isplitl [Hx]; · iexact Hx
    iexact Hpeer
  ihave H2 := (bzip (todo 0) (fun o => sendTok 0 1 c l o) (fun o => reached ER (cell c (some (0, o))) l)) $$ [Hs Hr0]
  · isplitl [Hs]; · iexact Hs
    iexact Hr0
  ihave H3 := (bzip (todo 0) (fun o => own c (slot prM (ofs c o)) (slc (ofs c o) X)) (fun o => reached ER (cell c (some (3, neg o))) l)) $$ [Hpr Hr3]
  · isplitl [Hpr]; · iexact Hpr
    iexact Hr3
  ihave H4 := (bzip (todo 0) (fun o => iprop(sendTok 0 1 c l o ∗ reached ER (cell c (some (0, o))) l)) (fun o => iprop(own c (slot prM (ofs c o)) (slc (ofs c o) X) ∗ reached ER (cell c (some (3, neg o))) l))) $$ [H2 H3]
  · isplitl [H2]; · iexact H2
    iexact H3
  ihave H5 := (bzip (todo 0) (fun o => iprop(ownq c (shr o) (slot xgM c) (I.xv l c) ∗ XgPeer c l o))
    (fun o => iprop((sendTok 0 1 c l o ∗ reached ER (cell c (some (0, o))) l) ∗ (own c (slot prM (ofs c o)) (slc (ofs c o) X) ∗ reached ER (cell c (some (3, neg o))) l)))) $$ [H1 H4]
  · isplitl [H1]; · iexact H1
    iexact H4
  have e : (bigSep (todo 0) fun o => iprop((ownq c (shr o) (slot xgM c) (I.xv l c) ∗ XgPeer c l o)
      ∗ ((sendTok 0 1 c l o ∗ reached ER (cell c (some (0, o))) l) ∗ (own c (slot prM (ofs c o)) (slc (ofs c o) X) ∗ reached ER (cell c (some (3, neg o))) l))))
      ⊢ bigSep (todo 0) fun o => (agS I.xv c l o : sProp 𝕄) := bmono fun o _ => by
    unfold agS agsPay RsPeer
    iintro ⟨⟨Hx, Hp⟩, ⟨Hs, Hr0⟩, Hpr, Hr3⟩
    isplitl [Hx]; · iexact Hx
    isplitl [Hp]; · iexact Hp
    isplitl [Hs]; · iexact Hs
    isplitl [Hr0]; · iexact Hr0
    iapply (Entails.of_eq (show iprop((∃ X, own c (slot prM (ofs c o)) X) ∗ reached ER (cell c (some (3, neg o))) l)
      = iprop((∃ X, own (ofs (ofs c o) (neg o)) (slot prM (ofs c o)) X) ∗ reached ER (cell (ofs (ofs c o) (neg o)) (some (3, neg o))) l) from by rw [ofs_neg]))
    isplitl [Hpr]; · iexists _; iexact Hpr
    iexact Hr3
  iapply e
  iexact H5

/-- What the waits of the gather leave: the gathered input, and the slots for the partial sums. -/
theorem ag_join (l : ℕ) :
    iprop((bigSep (todo 0) fun o => waitB I.xv I.pv 1 c l o) ∗ (bigSep (todo 0) fun o => waitB I.xv I.pv 0 c l o))
      ⊢ iprop((bigSep (todo 0) fun o => posAt 0 c (l + 1) o) ∗ (bigSep (todo 0) fun o => posAt 1 c (l + 1) o) ∗ own c xgM (I.xg l) ∗ bigSep (todo 0) fun o => RsPeer c l o) := by
  unfold waitB
  iintro ⟨H1, H0⟩
  ihave H1 := (show (bigSep (todo 0) fun o => iprop(posAt 1 c (l + 1) o ∗ payK I.xv I.pv c (some (1, o)) l 0)) ⊢ iprop((bigSep (todo 0) fun o => posAt 1 c (l + 1) o) ∗ bigSep (todo 0) fun o => agrPay I.xv c l o) from bunzip _ _ _) $$ H1
  ihave H0 := (show (bigSep (todo 0) fun o => iprop(posAt 0 c (l + 1) o ∗ payK I.xv I.pv c (some (0, o)) l 0)) ⊢ iprop((bigSep (todo 0) fun o => posAt 0 c (l + 1) o) ∗ bigSep (todo 0) fun o => agsPay I.xv c l o) from bunzip _ _ _) $$ H0
  icases H1 with ⟨Hp1, H1⟩
  icases H0 with ⟨Hp0, H0⟩
  isplitl [Hp0]; · iexact Hp0
  isplitl [Hp1]; · iexact Hp1
  unfold agrPay agsPay
  ihave H0 := (own_undeal c (slot xgM c) (I.xv l c)) $$ H0
  ihave H1 := (bunzip (todo 0) (fun o => own c (slot xgM (ofs c (neg o))) (I.xv l (ofs c (neg o)))) (fun o => RsPeer c l (neg o))) $$ H1
  icases H1 with ⟨H1, Hrs⟩
  isplitr [Hrs]
  · iapply (own_join c xgM (I.xv l))
    iapply (Entails.of_eq (big_down c fun b => own c (slot xgM b) (I.xv l b)).symm)
    isplitl [H0]; · iexact H0
    iexact H1
  iapply (Entails.of_eq (big_neg fun o => RsPeer c l o))
  iexact Hrs

/-- The gather of layer `l`. -/
theorem ph2_spec (h2 : k0_cond2 i = 1#1) (l : ℕ) (hl : l < 3) (P : Prog (TpuEff nD τ sig (Elt F) Λ₀ .tc) PUnit) (Q : PUnit → sProp (MT nD τ sig ℕ (Elt F) ℕ UU ℕ)) :
    iprop(records I.xv I.pv K ∗ levAts L lv ∗ SA I c l ∗ Ow c (futOw c l))
      ⊢ iprop(((SB I c l ∗ any c psM ∗ Ow c (dmaOw 3 c l 0 + futOw c (l + 1))) -∗ WP c P Q)
          -∗ WP c (ph2 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q) := by
  have hA (o : Fin 8) : Above (lv (cell c (some (1, o))) l) (dmaOw 3 c l 0 + futOw c (l + 1)) := by
    rw [lv_cell]; exact above_add (above_rs _ c l 0 hl (by show 2 + 2 * l < _; omega)) (above_fut _ c (l + 1) (by show 2 + 2 * l < _; omega))
  have hB (o : Fin 8) : Above (lv (cell c (some (0, o))) 0) (dmaOw 3 c l 0 + futOw c (l + 1)) := by
    rw [lv_cell]; exact above_add (above_rs _ c l 0 hl (by show 0 < _; omega)) (above_fut _ c (l + 1) (by show 0 < _; omega))
  have hf : futOw c l = dmaOw 1 c l 0 + (dmaOw 3 c l 0 + futOw c (l + 1)) := futOw_step c l hl
  rw [hf]
  generalize dmaOw 3 c l 0 + futOw c (l + 1) = R at hA hB ⊢
  unfold ph2
  simp only [dif_pos h2, k0_part4_eq_skeleton, k0_part5_eq_skeleton, k0_part6_eq_skeleton, k0_part7_eq_skeleton, k0_part8_eq_skeleton, k0_part9_eq_skeleton, k0_part10_eq_skeleton, k0_part11_eq_skeleton]
  unfold k0_part4_skel k0_part5_skel k0_part6_skel k0_part7_skel k0_part8_skel k0_part9_skel k0_part10_skel k0_part11_skel
  simp only [Prog.lift, Prog.bind_op, Prog.bind_ret, Prog.pure_eq_ret]
  unfold SA xgAt
  rw [if_pos hl, toks_step c l hl]
  iintro ⟨#Hrec, #Hlev, ⟨Hbar, Hidle, ⟨⟨Hat, Hrt⟩, Htok⟩, Hpos, Hxc, ⟨⟨%Y, Hxg⟩, Hpeer⟩, Hps, ⟨%pr, Hpr⟩⟩, HO⟩ Hk
  iapply (load_full c xcM fullShare (I.xl l c)) $$ [Hxc]
  · iexact Hxc
  iintro Hxc
  iapply (load_slot c xgM Y c (k0_off1_eq c)) $$ [Hxg]
  · iexact Hxg
  iintro %v Hxg
  iapply (store_slot c xgM Y c (k0_off1_eq c)) $$ [Hxg]
  · iexact Hxg
  iintro Hxg
  ihave #Hre := (posn_reached c l l) $$ Hpos
  icases Hre with ⟨#Hr0, -, -, #Hr3⟩
  ihave Hd := (ag_deal I c l pr) $$ [Hxg Hpeer Hat Hpr]
  · isplitl [Hxg]; · iexact Hxg
    isplitl [Hpeer]; · iexact Hpeer
    isplitl [Hat]; · iexact Hat
    isplitl [Hpr]; · iexact Hpr
    isplitr; · iexact Hr0
    iexact Hr3
  icases Hd with ⟨HS, Hprc, Hrv⟩
  ihave HS := (St_start (agS I.xv c l) (sent 0 c)) $$ HS
  iapply (ag_send I.xv I.pv K c l hl 0 1 rfl R (Fin.ext (dv8 c)) sem0_1 sem1_1 (k0_off2_eq c)) $$ [HO HS]
  · isplitr; · iexact Hrec
    isplitl [HO]; · iexact HO
    iexact HS
  iintro ⟨HO, HS⟩
  iapply (ag_send I.xv I.pv K c l hl 1 2 rfl R (Fin.ext (dv9 c)) sem0_2 sem1_2 (k0_off2_eq c)) $$ [HO HS]
  · isplitr; · iexact Hrec
    isplitl [HO]; · iexact HO
    iexact HS
  iintro ⟨HO, HS⟩
  iapply (ag_send I.xv I.pv K c l hl 2 3 rfl R (Fin.ext (dv10 c)) sem0_3 sem1_3 (k0_off2_eq c)) $$ [HO HS]
  · isplitr; · iexact Hrec
    isplitl [HO]; · iexact HO
    iexact HS
  iintro ⟨HO, HS⟩
  iapply (ag_send I.xv I.pv K c l hl 3 4 rfl R (Fin.ext (dv11 c)) sem0_4 sem1_4 (k0_off2_eq c)) $$ [HO HS]
  · isplitr; · iexact Hrec
    isplitl [HO]; · iexact HO
    iexact HS
  iintro ⟨HO, HS⟩
  iapply (ag_send I.xv I.pv K c l hl 4 5 rfl R (Fin.ext (dv12 c)) sem0_5 sem1_5 (k0_off2_eq c)) $$ [HO HS]
  · isplitr; · iexact Hrec
    isplitl [HO]; · iexact HO
    iexact HS
  iintro ⟨HO, HS⟩
  iapply (ag_send I.xv I.pv K c l hl 5 6 rfl R (Fin.ext (dv13 c)) sem0_6 sem1_6 (k0_off2_eq c)) $$ [HO HS]
  · isplitr; · iexact Hrec
    isplitl [HO]; · iexact HO
    iexact HS
  iintro ⟨HO, HS⟩
  iapply (ag_send I.xv I.pv K c l hl 6 7 rfl R (Fin.ext (dv14 c)) sem0_7 sem1_7 (k0_off2_eq c)) $$ [HO HS]
  · isplitr; · iexact Hrec
    isplitl [HO]; · iexact HO
    iexact HS
  iintro ⟨HO, HS⟩
  ihave HO := (Entails.of_eq (congrArg (Ow (F := F) c) (show dmaOw 1 c l 7 + R = R by rw [dmaOw_end, zero_add]))) $$ HO
  ihave Hsent := (St_end (agS I.xv c l) (sent 0 c)) $$ HS
  unfold posn
  icases Hpos with ⟨Hp0, Hp1, Hp2, Hp3⟩
  ihave Hw := (bzip (todo 0) (fun o => recvTok 1 c l o) (fun o => posAt 1 c l o)) $$ [Hrv Hp1]
  · isplitl [Hrv]; · iexact Hrv
    iexact Hp1
  ihave HS := (show (bigSep (todo 0) fun o => iprop(recvTok 1 c l o ∗ posAt 1 c l o)) ⊢ St (waitA 1 c l l) (waitB I.xv I.pv 1 c l) 0 from St_start _ _) $$ Hw
  iapply (wait_step I.xv I.pv K c 1 l l hl hl R 0 1 rfl hA (sem1_1) (credit_eq _)) $$ [HO HS]
  · isplitr; · iexact Hrec
    isplitr; · iexact Hlev
    isplitl [HO]; · iexact HO
    iexact HS
  iintro ⟨HO, HS⟩
  iapply (wait_step I.xv I.pv K c 1 l l hl hl R 1 2 rfl hA (sem1_2) (credit_eq _)) $$ [HO HS]
  · isplitr; · iexact Hrec
    isplitr; · iexact Hlev
    isplitl [HO]; · iexact HO
    iexact HS
  iintro ⟨HO, HS⟩
  iapply (wait_step I.xv I.pv K c 1 l l hl hl R 2 3 rfl hA (sem1_3) (credit_eq _)) $$ [HO HS]
  · isplitr; · iexact Hrec
    isplitr; · iexact Hlev
    isplitl [HO]; · iexact HO
    iexact HS
  iintro ⟨HO, HS⟩
  iapply (wait_step I.xv I.pv K c 1 l l hl hl R 3 4 rfl hA (sem1_4) (credit_eq _)) $$ [HO HS]
  · isplitr; · iexact Hrec
    isplitr; · iexact Hlev
    isplitl [HO]; · iexact HO
    iexact HS
  iintro ⟨HO, HS⟩
  iapply (wait_step I.xv I.pv K c 1 l l hl hl R 4 5 rfl hA (sem1_5) (credit_eq _)) $$ [HO HS]
  · isplitr; · iexact Hrec
    isplitr; · iexact Hlev
    isplitl [HO]; · iexact HO
    iexact HS
  iintro ⟨HO, HS⟩
  iapply (wait_step I.xv I.pv K c 1 l l hl hl R 5 6 rfl hA (sem1_6) (credit_eq _)) $$ [HO HS]
  · isplitr; · iexact Hrec
    isplitr; · iexact Hlev
    isplitl [HO]; · iexact HO
    iexact HS
  iintro ⟨HO, HS⟩
  iapply (wait_step I.xv I.pv K c 1 l l hl hl R 6 7 rfl hA (sem1_7) (credit_eq _)) $$ [HO HS]
  · isplitr; · iexact Hrec
    isplitr; · iexact Hlev
    isplitl [HO]; · iexact HO
    iexact HS
  iintro ⟨HO, HS⟩
  ihave Hw1 := (St_end (waitA 1 c l l) (waitB I.xv I.pv 1 c l)) $$ HS
  ihave Hw := (bzip (todo 0) (fun o => sent 0 c o) (fun o => posAt 0 c l o)) $$ [Hsent Hp0]
  · isplitl [Hsent]; · iexact Hsent
    iexact Hp0
  ihave HS := (show (bigSep (todo 0) fun o => iprop(sent 0 c o ∗ posAt 0 c l o)) ⊢ St (waitA 0 c l 0) (waitB I.xv I.pv 0 c l) 0 from St_start _ _) $$ Hw
  iapply (wait_step I.xv I.pv K c 0 l 0 hl (by decide) R 0 1 rfl hB (sem0_1) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 1 2 rfl hB (sem0_2) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 2 3 rfl hB (sem0_3) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 3 4 rfl hB (sem0_4) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 4 5 rfl hB (sem0_5) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 5 6 rfl hB (sem0_6) (credit_eq _)) $$ [HO HS]
  · isplitr; · iexact Hrec
    isplitr; · iexact Hlev
    isplitl [HO]; · iexact HO
    iexact HS
  iintro ⟨HO, HS⟩
  iapply (wait_step I.xv I.pv K c 0 l 0 hl (by decide) R 6 7 rfl hB (sem0_7) (credit_eq _)) $$ [HO HS]
  · isplitr; · iexact Hrec
    isplitr; · iexact Hlev
    isplitl [HO]; · iexact HO
    iexact HS
  iintro ⟨HO, HS⟩
  ihave Hw0 := (St_end (waitA 0 c l 0) (waitB I.xv I.pv 0 c l)) $$ HS
  ihave Hj := (ag_join I c l) $$ [Hw1 Hw0]
  · isplitl [Hw1]; · iexact Hw1
    iexact Hw0
  icases Hj with ⟨Hp0, Hp1, Hxg, Hrs⟩
  iapply Hk
  isplitr [Hps HO]
  · unfold SB posn
    isplitl [Hbar]; · iexact Hbar
    isplitl [Hidle]; · iexact Hidle
    isplitl [Hrt]; · iexact Hrt
    isplitl [Htok]; · iexact Htok
    isplitl [Hp0 Hp1 Hp2 Hp3]
    · isplitl [Hp0]; · iexact Hp0
      isplitl [Hp1]; · iexact Hp1
      isplitl [Hp2]; · iexact Hp2
      iexact Hp3
    isplitl [Hxc]; · iexact Hxc
    isplitl [Hxg]; · iexact Hxg
    isplitl [Hprc]; · iexact Hprc
    iexact Hrs
  isplitl [Hps]; · iexact Hps
  iexact HO

end Cert.KernelIdeal.Mlp

end
-- ==== Proof.KernelIdeal.Scatter.lean ====
/-
  The reduce-scatter of one layer.
-/
module

public import proofs.«01_k».proof.Proof.KernelIdeal.Gather

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (K : Dev nD × Kind → ℕ) (c : Dev nD)
variable (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (harg10 : xcM.IsWhole) (harg11 : xgM.IsWhole) (harg12 : pM.IsWhole) (harg13 : psM.IsWhole) (harg14 : prM.IsWhole)

/-- The own part of the gather buffer after its slots are handed on. -/
def xgRest (l : ℕ) : sProp 𝕄 := if l < 2 then any c (slot xgM c) else any c xgM

/-- The slots of the gather buffer are handed on while there is a layer to come. -/
theorem xg_hand (l : ℕ) (X : S8x64x2048.Idx → Elt F .bf16) :
    iprop(own c xgM X ∗ bigSep (todo 0) fun o => reached ER (cell c (some (1, o))) (l + 1))
      ⊢ iprop(xgRest c l ∗ bigSep (todo 0) fun o => XgNext (ofs c o) l (neg o)) := by
  by_cases hl : l < 2
  · unfold xgRest XgNext
    simp only [if_pos hl]
    iintro ⟨Hx, Hr⟩
    ihave Hx := (own_split c xgM X) $$ Hx
    ihave Hx := (Entails.of_eq (big_from c fun b => own c (slot xgM b) (slc b X))) $$ Hx
    icases Hx with ⟨Hc, Hx⟩
    isplitl [Hc]; · iexists _; iexact Hc
    ihave Hr := (Entails.of_eq (big_neg fun o => (reached ER (cell c (some (1, o))) (l + 1) : sProp 𝕄)).symm) $$ Hr
    ihave H := (bzip (todo 0) (fun o => own c (slot xgM (ofs c o)) (slc (ofs c o) X)) (fun o => reached ER (cell c (some (1, neg o))) (l + 1))) $$ [Hx Hr]
    · isplitl [Hx]; · iexact Hx
      iexact Hr
    have e : (bigSep (todo 0) fun o => iprop(own c (slot xgM (ofs c o)) (slc (ofs c o) X) ∗ reached ER (cell c (some (1, neg o))) (l + 1)))
        ⊢ bigSep (todo 0) fun o => (XgPeer (ofs c o) (l + 1) (neg o) : sProp 𝕄) := bmono fun o _ => by
      unfold XgPeer
      iintro ⟨Hx, Hr⟩
      iapply (Entails.of_eq (show iprop((∃ X, own c (slot xgM (ofs c o)) X) ∗ reached ER (cell c (some (1, neg o))) (l + 1))
        = iprop((∃ X, own (ofs (ofs c o) (neg o)) (slot xgM (ofs c o)) X) ∗ reached ER (cell (ofs (ofs c o) (neg o)) (some (1, neg o))) (l + 1)) from by rw [ofs_neg]))
      isplitl [Hx]; · iexists _; iexact Hx
      iexact Hr
    iapply e
    iexact H
  · unfold xgRest XgNext
    simp only [if_neg hl]
    iintro ⟨Hx, -⟩
    isplitl [Hx]; · iexists _; iexact Hx
    iapply (Entails.of_eq (bigSep_emp_const (todo 0)).symm)
    iempintro

/-- Everything the sends of the scatter of layer `l` are made with. -/
theorem rs_deal (l : ℕ) (Y : S8x64x2048.Idx → Elt F .bf16) (hY : Y = I.pv l c) :
    iprop(own c psM Y ∗ (bigSep (todo 0) fun o => RsPeer c l o) ∗ rsTok c l
        ∗ (bigSep (todo 0) fun o => reached ER (cell c (some (2, o))) l) ∗ (bigSep (todo 0) fun o => XgNext (ofs c o) l (neg o)))
      ⊢ iprop((bigSep (todo 0) fun o => rsS I.pv c l o) ∗ any c (slot psM c) ∗ bigSep (todo 0) fun o => recvTok 3 c l o) := by
  subst hY
  iintro ⟨Hs, Hpeer, Htok, Hr2, Hnext⟩
  ihave Hs := (own_split c psM (I.pv l c)) $$ Hs
  ihave Hs := (Entails.of_eq (big_from c fun b => own c (slot psM b) (slc b (I.pv l c)))) $$ Hs
  icases Hs with ⟨Hsc, Hs⟩
  unfold rsTok
  ihave Htok := (bunzip (todo 0) (fun o => sendTok 2 3 c l o) (fun o => recvTok 3 c l o)) $$ Htok
  icases Htok with ⟨Ht, Hrv⟩
  isplitr [Hsc Hrv]; swap
  · isplitl [Hsc]; · iexists _; iexact Hsc
    iexact Hrv
  ihave H1 := (bzip (todo 0) (fun o => own c (slot psM (ofs c o)) (slc (ofs c o) (I.pv l c))) (fun o => RsPeer c l o)) $$ [Hs Hpeer]
  · isplitl [Hs]; · iexact Hs
    iexact Hpeer
  ihave H2 := (bzip (todo 0) (fun o => sendTok 2 3 c l o) (fun o => reached ER (cell c (some (2, o))) l)) $$ [Ht Hr2]
  · isplitl [Ht]; · iexact Ht
    iexact Hr2
  ihave H3 := (bzip (todo 0) (fun o => iprop(sendTok 2 3 c l o ∗ reached ER (cell c (some (2, o))) l)) (fun o => XgNext (ofs c o) l (neg o))) $$ [H2 Hnext]
  · isplitl [H2]; · iexact H2
    iexact Hnext
  ihave H4 := (bzip (todo 0) (fun o => iprop(own c (slot psM (ofs c o)) (slc (ofs c o) (I.pv l c)) ∗ RsPeer c l o))
    (fun o => iprop((sendTok 2 3 c l o ∗ reached ER (cell c (some (2, o))) l) ∗ XgNext (ofs c o) l (neg o)))) $$ [H1 H3]
  · isplitl [H1]; · iexact H1
    iexact H3
  have e : (bigSep (todo 0) fun o => iprop((own c (slot psM (ofs c o)) (slc (ofs c o) (I.pv l c)) ∗ RsPeer c l o)
      ∗ ((sendTok 2 3 c l o ∗ reached ER (cell c (some (2, o))) l) ∗ XgNext (ofs c o) l (neg o))))
      ⊢ bigSep (todo 0) fun o => (rsS I.pv c l o : sProp 𝕄) := bmono fun o _ => by
    unfold rsS
    iintro ⟨⟨Hx, Hp⟩, ⟨Hs, Hr0⟩, Hn⟩
    isplitl [Hx]; · iexact Hx
    isplitl [Hp]; · iexact Hp
    isplitl [Hs]; · iexact Hs
    isplitl [Hr0]; · iexact Hr0
    iexact Hn
  iapply e
  iexact H4

/-- Slots held at whatever contents are the buffer held at some. -/
theorem any_join (M : Memref sig .tc .vmem S8x64x2048 .bf16) : (bigSep Finset.univ fun b : Fin 8 => iprop(∃ X, own c (slot M b) X)) ⊢ (any c M : sProp 𝕄) := by
  haveI : Nonempty (S64x2048.Idx → Elt F .bf16) := ⟨fun _ => Scalar.ofBits (F := F) .bf16 0x0000#16⟩
  iintro H
  ihave H := (BI.bigSep_exists_pi Finset.univ (fun (b : Fin 8) (X : S64x2048.Idx → Elt F .bf16) => (own c (slot M b) X : sProp 𝕄))) $$ H
  icases H with ⟨%Xs, H⟩
  iexists _
  iapply (own_join c M Xs)
  iexact H

/-- What the waits of the scatter leave: the eight partial sums, the sent buffer back, and the slots for the next layer. -/
theorem rs_join (l : ℕ) :
    iprop((bigSep (todo 0) fun o => waitB I.xv I.pv 3 c l o) ∗ (bigSep (todo 0) fun o => waitB I.xv I.pv 2 c l o)
        ∗ own c (slot prM c) (slc c (I.pv l c)) ∗ any c (slot psM c) ∗ xgRest c l)
      ⊢ iprop((bigSep (todo 0) fun o => posAt 2 c (l + 1) o) ∗ (bigSep (todo 0) fun o => posAt 3 c (l + 1) o)
        ∗ own c prM (gath fun d => slc c (I.pv l d)) ∗ any c psM ∗ xgAt c (l + 1)) := by
  unfold waitB
  iintro ⟨H3, H2, Hprc, Hpsc, Hxr⟩
  ihave H3 := (show (bigSep (todo 0) fun o => iprop(posAt 3 c (l + 1) o ∗ payK I.xv I.pv c (some (3, o)) l 0)) ⊢ iprop((bigSep (todo 0) fun o => posAt 3 c (l + 1) o) ∗ bigSep (todo 0) fun o => rsrPay I.pv c l o) from bunzip _ _ _) $$ H3
  ihave H2 := (show (bigSep (todo 0) fun o => iprop(posAt 2 c (l + 1) o ∗ payK I.xv I.pv c (some (2, o)) l 0)) ⊢ iprop((bigSep (todo 0) fun o => posAt 2 c (l + 1) o) ∗ bigSep (todo 0) fun o => rssPay c l o) from bunzip _ _ _) $$ H2
  icases H3 with ⟨Hp3, H3⟩
  icases H2 with ⟨Hp2, H2⟩
  isplitl [Hp2]; · iexact Hp2
  isplitl [Hp3]; · iexact Hp3
  unfold rsrPay rssPay
  ihave H3 := (bunzip (todo 0) (fun o => own c (slot prM (ofs c (neg o))) (slc c (I.pv l (ofs c (neg o))))) (fun o => XgNext c l (neg o))) $$ H3
  icases H3 with ⟨H3, Hn⟩
  isplitl [H3 Hprc]
  · iapply (own_join c prM (fun d => slc c (I.pv l d)))
    iapply (Entails.of_eq (big_down c fun b => own c (slot prM b) (slc c (I.pv l b))).symm)
    isplitl [Hprc]; · iexact Hprc
    iexact H3
  isplitl [H2 Hpsc]
  · iapply (any_join c psM)
    iapply (Entails.of_eq (big_from c fun b => iprop(∃ X, own c (slot psM b) X)).symm)
    isplitl [Hpsc]; · iexact Hpsc
    iexact H2
  ihave Hn := (Entails.of_eq (big_neg fun o => XgNext c l o)) $$ Hn
  by_cases hl : l < 2
  · unfold xgRest xgAt XgNext
    simp only [if_pos hl, if_pos (show l + 1 < 3 by omega)]
    isplitl [Hxr]; · iexact Hxr
    iexact Hn
  · unfold xgRest xgAt XgNext
    simp only [if_neg hl, if_neg (show ¬ l + 1 < 3 by omega)]
    iexact Hxr

/-- The scatter of layer `l`. -/
theorem ph5_spec (h15 : k0_cond15 i = 1#1) (l : ℕ) (hl : l < 3) (Y : S8x64x2048.Idx → Elt F .bf16) (hY : Y = I.pv l c)
    (P : Prog (TpuEff nD τ sig (Elt F) Λ₀ .tc) PUnit) (Q : PUnit → sProp (MT nD τ sig ℕ (Elt F) ℕ UU ℕ)) :
    iprop(records I.xv I.pv K ∗ levAts L lv ∗ SB I c l ∗ own c psM Y ∗ Ow c (dmaOw 3 c l 0 + futOw c (l + 1)))
      ⊢ iprop(((SA I c (l + 1) ∗ Ow c (futOw c (l + 1))) -∗ WP c P Q)
          -∗ WP c (ph5 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q) := by
  have hA (o : Fin 8) : Above (lv (cell c (some (3, o))) l) (futOw c (l + 1)) := by
    rw [lv_cell]; exact above_fut _ c (l + 1) (by show 3 + 2 * l < _; omega)
  have hB (o : Fin 8) : Above (lv (cell c (some (2, o))) 0) (futOw c (l + 1)) := by
    rw [lv_cell]; exact above_fut _ c (l + 1) (by show 0 < _; omega)
  have hw : sq (k0_pay17 (win c Y)) = slc c (I.pv l c) := by rw [sq_pay17, hY]; rfl
  unfold ph5
  simp only [dif_pos h15, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part12_skel k0_part13_skel k0_part14_skel k0_part15_skel k0_part16_skel k0_part17_skel k0_part18_skel k0_part19_skel k0_part20_skel k0_part21_skel k0_part22_skel
  simp only [Prog.lift, Prog.bind_op, Prog.bind_ret, Prog.pure_eq_ret]
  unfold SB
  iintro ⟨#Hrec, #Hlev, ⟨Hbar, Hidle, Hrt, Htok, Hpos, Hxc, Hxg, ⟨%pr, Hpr⟩, Hpeer⟩, Hps, HO⟩ Hk
  iapply (load_win c psM Y c (k0_off3_eq c)) $$ [Hps]
  · iexact Hps
  iintro Hps
  iapply (load_slot c prM pr c (k0_off3_eq c)) $$ [Hpr]
  · iexact Hpr
  iintro %v Hpr
  iapply (store_slot c prM pr c (k0_off3_eq c)) $$ [Hpr]
  · iexact Hpr
  iintro Hpr
  ihave Hpr := (Entails.of_eq (congrArg (own c (slot prM c)) hw)) $$ Hpr
  ihave #Hre := (posn_reached c (l + 1) l) $$ Hpos
  icases Hre with ⟨-, #Hr1, #Hr2, -⟩
  ihave Hh := (xg_hand c l (I.xg l)) $$ [Hxg]
  · isplitl [Hxg]; · iexact Hxg
    iexact Hr1
  icases Hh with ⟨Hxr, Hnext⟩
  ihave Hd := (rs_deal I c l Y hY) $$ [Hps Hpeer Hrt Hnext]
  · isplitl [Hps]; · iexact Hps
    isplitl [Hpeer]; · iexact Hpeer
    isplitl [Hrt]; · iexact Hrt
    isplitr; · iexact Hr2
    iexact Hnext
  icases Hd with ⟨HS, Hpsc, Hrv⟩
  ihave HS := (St_start (rsS I.pv c l) (sent 2 c)) $$ HS
  iapply (rs_send I.xv I.pv K c l hl 0 1 rfl (futOw c (l + 1)) (Fin.ext (dv15 c)) sem2_1 sem3_1 (off5_1 c) (k0_off4_eq c)) $$ [HO HS]
  · isplitr; · iexact Hrec
    isplitl [HO]; · iexact HO
    iexact HS
  iintro ⟨HO, HS⟩
  iapply (rs_send I.xv I.pv K c l hl 1 2 rfl (futOw c (l + 1)) (Fin.ext (dv16 c)) sem2_2 sem3_2 (off5_2 c) (k0_off4_eq c)) $$ [HO HS]
  · isplitr; · iexact Hrec
    isplitl [HO]; · iexact HO
    iexact HS
  iintro ⟨HO, HS⟩
  iapply (rs_send I.xv I.pv K c l hl 2 3 rfl (futOw c (l + 1)) (Fin.ext (dv17 c)) sem2_3 sem3_3 (off5_3 c) (k0_off4_eq c)) $$ [HO HS]
  · isplitr; · iexact Hrec
    isplitl [HO]; · iexact HO
    iexact HS
  iintro ⟨HO, HS⟩
  iapply (rs_send I.xv I.pv K c l hl 3 4 rfl (futOw c (l + 1)) (Fin.ext (dv18 c)) sem2_4 sem3_4 (off5_4 c) (k0_off4_eq c)) $$ [HO HS]
  · isplitr; · iexact Hrec
    isplitl [HO]; · iexact HO
    iexact HS
  iintro ⟨HO, HS⟩
  iapply (rs_send I.xv I.pv K c l hl 4 5 rfl (futOw c (l + 1)) (Fin.ext (dv19 c)) sem2_5 sem3_5 (off5_5 c) (k0_off4_eq c)) $$ [HO HS]
  · isplitr; · iexact Hrec
    isplitl [HO]; · iexact HO
    iexact HS
  iintro ⟨HO, HS⟩
  iapply (rs_send I.xv I.pv K c l hl 5 6 rfl (futOw c (l + 1)) (Fin.ext (dv20 c)) sem2_6 sem3_6 (off5_6 c) (k0_off4_eq c)) $$ [HO HS]
  · isplitr; · iexact Hrec
    isplitl [HO]; · iexact HO
    iexact HS
  iintro ⟨HO, HS⟩
  iapply (rs_send I.xv I.pv K c l hl 6 7 rfl (futOw c (l + 1)) (Fin.ext (dv21 c)) sem2_7 sem3_7 (off5_7 c) (k0_off4_eq c)) $$ [HO HS]
  · isplitr; · iexact Hrec
    isplitl [HO]; · iexact HO
    iexact HS
  iintro ⟨HO, HS⟩
  ihave HO := (Entails.of_eq (congrArg (Ow (F := F) c) (show dmaOw 3 c l 7 + futOw c (l + 1) = futOw c (l + 1) by rw [dmaOw_end, zero_add]))) $$ HO
  ihave Hsent := (St_end (rsS I.pv c l) (sent 2 c)) $$ HS
  unfold posn
  icases Hpos with ⟨Hp0, Hp1, Hp2, Hp3⟩
  ihave Hw := (bzip (todo 0) (fun o => recvTok 3 c l o) (fun o => posAt 3 c l o)) $$ [Hrv Hp3]
  · isplitl [Hrv]; · iexact Hrv
    iexact Hp3
  ihave HS := (show (bigSep (todo 0) fun o => iprop(recvTok 3 c l o ∗ posAt 3 c l o)) ⊢ St (waitA 3 c l l) (waitB I.xv I.pv 3 c l) 0 from St_start _ _) $$ Hw
  iapply (wait_step I.xv I.pv K c 3 l l hl hl (futOw c (l + 1)) 0 1 rfl hA (sem3_1) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 1 2 rfl hA (sem3_2) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 2 3 rfl hA (sem3_3) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 3 4 rfl hA (sem3_4) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 4 5 rfl hA (sem3_5) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 5 6 rfl hA (sem3_6) (credit_eq _)) $$ [HO HS]
  · isplitr; · iexact Hrec
    isplitr; · iexact Hlev
    isplitl [HO]; · iexact HO
    iexact HS
  iintro ⟨HO, HS⟩
  iapply (wait_step I.xv I.pv K c 3 l l hl hl (futOw c (l + 1)) 6 7 rfl hA (sem3_7) (credit_eq _)) $$ [HO HS]
  · isplitr; · iexact Hrec
    isplitr; · iexact Hlev
    isplitl [HO]; · iexact HO
    iexact HS
  iintro ⟨HO, HS⟩
  ihave Hw3 := (St_end (waitA 3 c l l) (waitB I.xv I.pv 3 c l)) $$ HS
  ihave Hw := (bzip (todo 0) (fun o => sent 2 c o) (fun o => posAt 2 c l o)) $$ [Hsent Hp2]
  · isplitl [Hsent]; · iexact Hsent
    iexact Hp2
  ihave HS := (show (bigSep (todo 0) fun o => iprop(sent 2 c o ∗ posAt 2 c l o)) ⊢ St (waitA 2 c l 0) (waitB I.xv I.pv 2 c l) 0 from St_start _ _) $$ Hw
  iapply (wait_step I.xv I.pv K c 2 l 0 hl (by decide) (futOw c (l + 1)) 0 1 rfl hB (sem2_1) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 1 2 rfl hB (sem2_2) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 2 3 rfl hB (sem2_3) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 3 4 rfl hB (sem2_4) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 4 5 rfl hB (sem2_5) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 5 6 rfl hB (sem2_6) (credit_eq _)) $$ [HO HS]
  · isplitr; · iexact Hrec
    isplitr; · iexact Hlev
    isplitl [HO]; · iexact HO
    iexact HS
  iintro ⟨HO, HS⟩
  iapply (wait_step I.xv I.pv K c 2 l 0 hl (by decide) (futOw c (l + 1)) 6 7 rfl hB (sem2_7) (credit_eq _)) $$ [HO HS]
  · isplitr; · iexact Hrec
    isplitr; · iexact Hlev
    isplitl [HO]; · iexact HO
    iexact HS
  iintro ⟨HO, HS⟩
  ihave Hw2 := (St_end (waitA 2 c l 0) (waitB I.xv I.pv 2 c l)) $$ HS
  ihave Hj := (rs_join I c l) $$ [Hw3 Hw2 Hpr Hpsc Hxr]
  · isplitl [Hw3]; · iexact Hw3
    isplitl [Hw2]; · iexact Hw2
    isplitl [Hpr]; · iexact Hpr
    isplitl [Hpsc]; · iexact Hpsc
    iexact Hxr
  icases Hj with ⟨Hp2, Hp3, Hpr, Hps, Hxg⟩
  iapply (load_win c prM (gath fun d => slc c (I.pv l d)) 0 rfl) $$ [Hpr]
  · iexact Hpr
  iintro Hpr
  iapply (load_win c prM (gath fun d => slc c (I.pv l d)) 1 rfl) $$ [Hpr]
  · iexact Hpr
  iintro Hpr
  iapply (load_win c prM (gath fun d => slc c (I.pv l d)) 2 rfl) $$ [Hpr]
  · iexact Hpr
  iintro Hpr
  iapply (load_win c prM (gath fun d => slc c (I.pv l d)) 3 rfl) $$ [Hpr]
  · iexact Hpr
  iintro Hpr
  iapply (load_win c prM (gath fun d => slc c (I.pv l d)) 4 rfl) $$ [Hpr]
  · iexact Hpr
  iintro Hpr
  iapply (load_win c prM (gath fun d => slc c (I.pv l d)) 5 rfl) $$ [Hpr]
  · iexact Hpr
  iintro Hpr
  iapply (load_win c prM (gath fun d => slc c (I.pv l d)) 6 rfl) $$ [Hpr]
  · iexact Hpr
  iintro Hpr
  iapply (load_win c prM (gath fun d => slc c (I.pv l d)) 7 rfl) $$ [Hpr]
  · iexact Hpr
  iintro Hpr
  iapply (load_full c xcM fullShare (I.xl l c)) $$ [Hxc]
  · iexact Hxc
  iintro Hxc
  iapply (store_full c xcM (I.xl l c)) $$ [Hxc]
  · iexact Hxc
  iintro Hxc
  iapply Hk
  isplitr [HO]
  · unfold SA posn
    isplitl [Hbar]; · iexact Hbar
    isplitl [Hidle]; · iexact Hidle
    isplitl [Htok]; · iexact Htok
    isplitl [Hp0 Hp1 Hp2 Hp3]
    · isplitl [Hp0]; · iexact Hp0
      isplitl [Hp1]; · iexact Hp1
      isplitl [Hp2]; · iexact Hp2
      iexact Hp3
    isplitl [Hxc]; · iexact Hxc
    isplitl [Hxg]; · iexact Hxg
    isplitl [Hps]; · iexact Hps
    iexists _; iexact Hpr
  iexact HO

end Cert.KernelIdeal.Mlp

end
-- ==== Proof.KernelIdeal.Points.lean ====
/-
  What a device holds between the grid points, and the three parts of a point.
-/
module

public import proofs.«01_k».proof.Proof.KernelIdeal.Compute
public import proofs.«01_k».proof.Proof.KernelIdeal.Scatter
public import proofs.«01_k».proof.Proof.KernelIdeal.Gather
public import proofs.«01_k».proof.Proof.KernelIdeal.Handshake

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Phases a point passes over -/

section skips
variable (c : Dev nD) (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (harg10 : xcM.IsWhole) (harg11 : xgM.IsWhole) (harg12 : pM.IsWhole) (harg13 : psM.IsWhole) (harg14 : prM.IsWhole)
variable (P : Prog (TpuEff nD τ sig (Elt F) Λ₀ .tc) PUnit) (Q : PUnit → sProp (MT nD τ sig ℕ (Elt F) ℕ UU ℕ))

/-- The start is passed over after the first point. -/
theorem ph1_skip (h : k0_cond1 i ≠ 1#1) : (WP c P Q) ⊢ WP c (ph1 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q := by
  unfold ph1
  simp only [dif_neg h]
  exact .rfl
/-- The gather is passed over inside a layer. -/
theorem ph2_skip (h : k0_cond2 i ≠ 1#1) : (WP c P Q) ⊢ WP c (ph2 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q := by
  unfold ph2
  simp only [dif_neg h]
  exact .rfl
/-- The scatter is passed over before a layer's end. -/
theorem ph5_skip (h : k0_cond15 i ≠ 1#1) : (WP c P Q) ⊢ WP c (ph5 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P) Q := by
  unfold ph5
  simp only [dif_neg h]
  exact .rfl
/-- The output is not written before the last point. -/
theorem ph6_skip (h : k0_cond16 i ≠ 1#1) : (WP c P Q) ⊢ WP c (ph6 i arg9 xcM P) Q := by
  unfold ph6
  simp only [dif_neg h]
  exact .rfl
/-- At the last point the device's block is written to the output. -/
theorem ph6_spec (h : k0_cond16 i = 1#1) (X : S64x2048.Idx → Elt F .f32) :
    iprop(own c xcM X ∗ any c arg9) ⊢ iprop(((own c xcM X ∗ own c arg9 X) -∗ WP c P Q) -∗ WP c (ph6 i arg9 xcM P) Q) := by
  unfold ph6
  simp only [dif_pos h]
  simp only [Prog.lift, Prog.bind_op, Prog.bind_ret, Prog.pure_eq_ret]
  iintro ⟨Hx, ⟨%A, Ho⟩⟩ Hk
  iapply (load_full c xcM fullShare X) $$ [Hx]
  · iexact Hx
  iintro Hx
  iapply (load_full c arg9 fullShare A) $$ [Ho]
  · iexact Ho
  iintro Ho
  iapply (store_full c arg9 A) $$ [Ho]
  · iexact Ho
  iintro Ho
  iapply Hk
  isplitl [Hx]; · iexact Hx
  iexact Ho
/-- A finished program has shown what it must, up to an update. -/
theorem ret_spec : iprop(|={Set.univ}=> Q ⟨⟩) ⊢ WP c (pure ⟨⟩) Q := by
  show _ ⊢ wp frame (wpE (defs₀ (F := F)) 𝒱₀ (c : Thread nD τ) none) Set.univ (.ret ⟨⟩) Q
  rw [wp_ret]
end skips

/-! ## Closing the cells -/

section close
variable (xv : ℕ → Dev nD → S64x2048.Idx → Elt F .bf16) (pv : ℕ → Dev nD → S8x64x2048.Idx → Elt F .bf16)

/-- The round after a cell's last. -/
def fin : Kind → ℕ
  | none => 1
  | some (_, o) => if o = 0 then 0 else 3

/-- A cell has no duty from there on. -/
theorem duties_fin (c : Dev nD) (k : Kind) (r : ℕ) (h : fin k ≤ r) : (Rd xv pv).duties (cell c k) r = ∅ := by
  rw [Rd_duties]
  rcases k with _ | ⟨j, o⟩
  · exact if_neg (by have : 1 ≤ r := h; omega)
  · refine if_neg fun ⟨h1, h2⟩ => ?_
    have : (if o = 0 then 0 else 3) ≤ r := h
    rw [if_neg (by intro e; rw [e] at h2; exact Nat.lt_irrefl 0 h2)] at this
    omega

omit [FloatOps F] in
/-- All the cells: the barrier's and the four families'. -/
theorem big_kind (Φ : Kind → sProp 𝕄) : bigSep Finset.univ Φ = iprop(Φ none ∗ bigSep Finset.univ fun j : Fin 4 => bigSep Finset.univ fun o : Fin 8 => Φ (some (j, o))) := by
  rw [show (Finset.univ : Finset Kind) = insert none (Finset.univ.map ⟨some, Option.some_injective _⟩) from by
    ext k; rcases k with _ | p <;> simp]
  rw [bigSep_insert (by simp), bigSep_map, bigSep_univ_prod]
  rfl

omit [FloatOps F] in
/-- Over the four families, one by one. -/
theorem big_fam (Φ : Fin 4 → sProp 𝕄) : bigSep Finset.univ Φ = iprop(Φ 0 ∗ Φ 1 ∗ Φ 2 ∗ Φ 3) :=
  Idealize.SL.BI.bigSep_univ_eq_bigSepL [0, 1, 2, 3] (by decide) (by decide) Φ

/-- At the end every own cell stands after its last round. -/
theorem at_end (c : Dev nD) : iprop(atPos ER (cell c none) 1 ∅ 0 ∗ idle4 c ∗ posn c 3 3)
    ⊢ (bigSep Finset.univ fun k : Kind => atPos ER (cell c k) (fin k) ∅ 0 : sProp 𝕄) := by
  have e (j : Fin 4) : (bigSep (todo 0) fun o => posAt j c 3 o) ⊢ (bigSep (todo 0) fun o => atPos ER (cell c (some (j, o))) (fin (some (j, o))) ∅ 0 : sProp 𝕄) := bmono fun o ho => by
    unfold posAt
    iintro ⟨H, -⟩
    iapply (Entails.of_eq (show (atPos ER (cell c (some (j, o))) 3 ∅ 0 : sProp 𝕄) = atPos ER (cell c (some (j, o))) (fin (some (j, o))) ∅ 0 from by
      rw [show fin (some (j, o)) = 3 from if_neg (by intro e; rw [e, mem_todo] at ho; exact Nat.lt_irrefl 0 ho)]))
    iexact H
  unfold posn idle4
  iintro ⟨Hb, Hi, H0, H1, H2, H3⟩
  iapply (Entails.of_eq (big_kind fun k => (atPos ER (cell c k) (fin k) ∅ 0 : sProp 𝕄)).symm)
  isplitl [Hb]; · iexact Hb
  have e2 : (bigSep Finset.univ fun j : Fin 4 => iprop(atPos ER (cell c (some (j, 0))) 0 ∅ 0 ∗ bigSep (todo 0) fun o => atPos ER (cell c (some (j, o))) (fin (some (j, o))) ∅ 0))
      ⊢ (bigSep Finset.univ fun j : Fin 4 => bigSep Finset.univ fun o : Fin 8 => atPos ER (cell c (some (j, o))) (fin (some (j, o))) ∅ 0 : sProp 𝕄) :=
    bmono fun j _ => Entails.of_eq (big_zero fun o => (atPos ER (cell c (some (j, o))) (fin (some (j, o))) ∅ 0 : sProp 𝕄)).symm
  iapply e2
  iapply (bzip Finset.univ (fun j : Fin 4 => (atPos ER (cell c (some (j, 0))) 0 ∅ 0 : sProp 𝕄)) (fun j => bigSep (todo 0) fun o => atPos ER (cell c (some (j, o))) (fin (some (j, o))) ∅ 0))
  isplitl [Hi]; · iexact Hi
  iapply (Entails.of_eq (big_fam fun j => (bigSep (todo 0) fun o => atPos ER (cell c (some (j, o))) (fin (some (j, o))) ∅ 0 : sProp 𝕄)).symm)
  isplitl [H0]; · iapply (e 0); iexact H0
  isplitl [H1]; · iapply (e 1); iexact H1
  isplitl [H2]; · iapply (e 2); iexact H2
  iapply (e 3); iexact H3

/-- Every own cell closes, its counter at zero. -/
theorem close_all (K : Dev nD × Kind → ℕ) (c : Dev nD) : iprop(records xv pv K ∗ atPos ER (cell c none) 1 ∅ 0 ∗ idle4 c ∗ posn c 3 3)
    ⊢ (iprop(|={Set.univ}=> bigSep Finset.univ fun k : Kind => semVal (cell c k) 0) : sProp 𝕄) := by
  iintro ⟨#Hrec, H⟩
  ihave H := (at_end c) $$ H
  have e : iprop(records xv pv K ∗ bigSep Finset.univ fun k : Kind => atPos ER (cell c k) (fin k) ∅ 0)
      ⊢ (bigSep Finset.univ fun k : Kind => iprop(|={Set.univ}=> semVal (cell c k) 0) : sProp 𝕄) := bwith fun k _ => by
    iintro ⟨#Hr, H⟩
    iapply (Rounds.cell_close ER (Rd xv pv) (Set.mem_univ (K (c, k))) (fun h => h) (R := fin k) (duties_fin xv pv c k))
    isplitr; · iapply (inv_at xv pv K c k); iexact Hr
    iexact H
  iapply (show (bigSep Finset.univ fun k : Kind => iprop(|={Set.univ}=> semVal (cell c k) 0)) ⊢ (iprop(|={Set.univ}=> bigSep Finset.univ fun k : Kind => semVal (cell c k) 0) : sProp 𝕄) from bigSep_fupd _ _)
  iapply e
  isplitr; · iexact Hrec
  iexact H
end close

/-! ## The states between the points -/

section states
variable (I : Inp F) (c : Dev nD)

/-- After the last point: every cell at zero, every buffer at whatever contents. -/
def SE : sProp 𝕄 :=
  iprop((bigSep Finset.univ fun k : Kind => semVal (cell c k) 0) ∗ any c xcM ∗ any c xgM ∗ any c pM ∗ any c psM ∗ any c prM)

/-- The sum of the products so far, before block `k`. -/
def pIn (l k : ℕ) : sProp 𝕄 := if k = 0 then any c pM else own c pM (I.acc l c (k - 1))

/-- What a device holds before point `n`. -/
def St24 (n : ℕ) : sProp 𝕄 :=
  if n = 0 then S0 c else if n = 24 then SE c
  else if n % 8 = 0 then iprop(SA I c (n / 8) ∗ any c pM) else iprop(SB I c (n / 8) ∗ own c pM (I.acc (n / 8) c (n % 8 - 1)) ∗ any c psM)

/-- What it owes before point `n`. -/
def ow24 (n : ℕ) : CellTallies nD τ sig ℕ :=
  if n = 0 then barOw c 0 + futOw c 0 else if n % 8 = 0 then futOw c (n / 8) else dmaOw 3 c (n / 8) 0 + futOw c (n / 8 + 1)

/-- After the gather of the point's layer, or inside it. -/
def Mid (l k : ℕ) : sProp 𝕄 := iprop(SB I c l ∗ pIn I c l k ∗ any c psM)

end states

section points
variable (I : Inp F) (K : Dev nD × Kind → ℕ) (c : Dev nD)
variable (i : grid0.Coords) (arg2 : Memref sig .tc .vmem S64x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S64x2048 .f32) (harg9 : arg9.IsWhole) (harg10 : xcM.IsWhole) (harg11 : xgM.IsWhole) (harg12 : pM.IsWhole) (harg13 : psM.IsWhole) (harg14 : prM.IsWhole)
variable (P : Prog (TpuEff nD τ sig (Elt F) Λ₀ .tc) PUnit) (Q : PUnit → sProp (MT nD τ sig ℕ (Elt F) ℕ UU ℕ))

/-- The start and the gather. -/
theorem head_spec (l k : ℕ) (hl : l < 3) (hk : k < 8) (h1 : k0_cond1 i = 1#1 ↔ 8 * l + k = 0) (h2 : k0_cond2 i = 1#1 ↔ k = 0) :
    iprop(records I.xv I.pv K ∗ levAts L lv ∗ St24 I c (8 * l + k) ∗ Ow c (ow24 c (8 * l + k)) ∗ own c arg2 (I.x0 c))
      ⊢ iprop(((Mid I c l k ∗ Ow c (dmaOw 3 c l 0 + futOw c (l + 1)) ∗ own c arg2 (I.x0 c)) -∗ WP c P Q)
          -∗ WP c (ph1 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c (ph2 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c P)) Q) := by
  have hd : (8 * l + k) / 8 = l := by omega
  have hm : (8 * l + k) % 8 = k := by omega
  unfold St24 ow24 Mid pIn
  rw [hd, hm]
  by_cases hk0 : k = 0
  · subst hk0
    simp only [if_true]
    have hc2 : k0_cond2 i = 1#1 := h2.2 rfl
    by_cases hl0 : l = 0
    · subst hl0
      simp only [Nat.mul_zero, Nat.add_zero, if_true]
      iintro ⟨#Hrec, #Hlev, HS, HO, Hx⟩ Hk
      iapply (ph1_spec I K c i arg2 harg2 arg3 harg3 arg4 harg4 arg5 harg5 arg6 harg6 arg7 harg7 arg8 harg8 arg9 harg9 harg10 harg11 harg12 harg13 harg14 (h1.2 rfl) _ Q) $$ [HS HO Hx]
      · isplitr; · iexact Hrec
        isplitr; · iexact Hlev
        isplitl [HS]; · iexact HS
        isplitl [HO]; · iexact HO
        iexact Hx
      iintro ⟨HS, Hp, HO, Hx⟩
      iapply (ph2_spec I K c i arg2 harg2 arg3 harg3 arg4 harg4 arg5 harg5 arg6 harg6 arg7 harg7 arg8 harg8 arg9 harg9 harg10 harg11 harg12 harg13 harg14 hc2 0 hl P Q) $$ [HS HO]
      · isplitr; · iexact Hrec
        isplitr; · iexact Hlev
        isplitl [HS]; · iexact HS
        iexact HO
      iintro ⟨HS, Hps, HO⟩
      iapply Hk
      isplitl [HS Hp Hps]
      · isplitl [HS]; · iexact HS
        isplitl [Hp]; · iexact Hp
        iexact Hps
      isplitl [HO]; · iexact HO
      iexact Hx
    · simp only [Nat.add_zero]
      rw [if_neg (show ¬(8 * l = 0) by omega), if_neg (show ¬(8 * l = 24) by omega), if_neg (show ¬(8 * l = 0) by omega)]
      iintro ⟨#Hrec, #Hlev, ⟨HS, Hp⟩, HO, Hx⟩ Hk
      iapply (ph1_skip c i arg2 harg2 arg3 harg3 arg4 harg4 arg5 harg5 arg6 harg6 arg7 harg7 arg8 harg8 arg9 harg9 harg10 harg11 harg12 harg13 harg14 _ Q (fun h => by have := h1.1 h; omega))
      iapply (ph2_spec I K c i arg2 harg2 arg3 harg3 arg4 harg4 arg5 harg5 arg6 harg6 arg7 harg7 arg8 harg8 arg9 harg9 harg10 harg11 harg12 harg13 harg14 hc2 l hl P Q) $$ [HS HO]
      · isplitr; · iexact Hrec
        isplitr; · iexact Hlev
        isplitl [HS]; · iexact HS
        iexact HO
      iintro ⟨HS, Hps, HO⟩
      iapply Hk
      isplitl [HS Hp Hps]
      · isplitl [HS]; · iexact HS
        isplitl [Hp]; · iexact Hp
        iexact Hps
      isplitl [HO]; · iexact HO
      iexact Hx
  · rw [if_neg (show ¬(8 * l + k = 0) by omega), if_neg (show ¬(8 * l + k = 24) by omega), if_neg hk0, if_neg (show ¬(8 * l + k = 0) by omega), if_neg hk0, if_neg hk0]
    iintro ⟨-, -, ⟨HS, Hp, Hps⟩, HO, Hx⟩ Hk
    iapply (ph1_skip c i arg2 harg2 arg3 harg3 arg4 harg4 arg5 harg5 arg6 harg6 arg7 harg7 arg8 harg8 arg9 harg9 harg10 harg11 harg12 harg13 harg14 _ Q (fun h => by have := h1.1 h; omega))
    iapply (ph2_skip c i arg2 harg2 arg3 harg3 arg4 harg4 arg5 harg5 arg6 harg6 arg7 harg7 arg8 harg8 arg9 harg9 harg10 harg11 harg12 harg13 harg14 _ Q (fun h => hk0 (h2.1 h)))
    iapply Hk
    isplitl [HS Hp Hps]
    · isplitl [HS]; · iexact HS
      isplitl [Hp]; · iexact Hp
      iexact Hps
    isplitl [HO]; · iexact HO
    iexact Hx

/-- The two product buffers after block `k`: the sum so far, at the last block also the partial product to scatter. -/
def pOut (l k : ℕ) : sProp 𝕄 := if k = 7 then iprop(any c pM ∗ own c psM (I.pv l c)) else iprop(own c pM (I.acc l c k) ∗ any c psM)

/-- The three tests on the block: the first, one between, the last. -/
theorem blk_bits : ∀ k : Fin 8, (isw (BitVec.ofNat 32 k.val) 0#32 = 1#1 ↔ k.val = 0) ∧ (ismid (BitVec.ofNat 32 k.val) = 1#1 ↔ 0 < k.val ∧ k.val < 7)
    ∧ (isw (BitVec.ofNat 32 k.val) 7#32 = 1#1 ↔ k.val = 7) := by decide

/-- A block of the point's layer is multiplied and added. -/
theorem comp_spec (b : BitVec 1) (hb : b = 1#1) (l k : ℕ) (hk : k < 8) (M1 : Memref sig .tc .vmem S2048x512 .bf16) (M2 : Memref sig .tc .vmem S512x2048 .bf16)
    (W1 : S2048x512.Idx → Elt F .bf16) (W2 : S512x2048.Idx → Elt F .bf16) (e1 : W1 = I.w1 l k c) (e2 : W2 = I.w2 l k c) :
    iprop(own c xgM (I.xg l) ∗ own c M1 W1 ∗ own c M2 W2 ∗ pIn I c l k ∗ any c psM)
      ⊢ iprop(((own c xgM (I.xg l) ∗ own c M1 W1 ∗ own c M2 W2 ∗ pOut I c l k) -∗ WP c P Q) -∗ WP c (comp b (BitVec.ofNat 32 k) M1 M2 xgM pM psM harg13 P) Q) := by
  have hB := blk_bits ⟨k, hk⟩
  dsimp only at hB
  obtain ⟨b0, bm, b7⟩ := hB
  subst e1 e2
  unfold pIn pOut
  by_cases h0 : k = 0
  · subst h0
    rw [if_pos rfl, if_neg (by decide)]
    iintro ⟨Hx, H1, H2, Hp, Hs⟩ Hk
    iapply (comp_zero c b _ M1 M2 harg13 (I.xg l) (I.w1 l 0 c) (I.w2 l 0 c) P Q hb (b0.2 rfl) (fun h => by have := bm.1 h; omega) (fun h => by have := b7.1 h; omega)) $$ [Hx H1 H2 Hp]
    · isplitl [Hx]; · iexact Hx
      isplitl [H1]; · iexact H1
      isplitl [H2]; · iexact H2
      iexact Hp
    iintro ⟨Hx, H1, H2, Hp⟩
    iapply Hk
    isplitl [Hx]; · iexact Hx
    isplitl [H1]; · iexact H1
    isplitl [H2]; · iexact H2
    isplitl [Hp]; · iexact Hp
    iexact Hs
  · obtain ⟨j, rfl⟩ : ∃ j, k = j + 1 := ⟨k - 1, by omega⟩
    rw [if_neg h0, show j + 1 - 1 = j from rfl]
    by_cases h7 : j + 1 = 7
    · obtain rfl : j = 6 := by omega
      rw [if_pos rfl]
      iintro ⟨Hx, H1, H2, Hp, Hs⟩ Hk
      iapply (comp_last c b _ M1 M2 harg13 (I.xg l) (I.w1 l 7 c) (I.w2 l 7 c) P Q (I.acc l c 6) hb (fun h => by have := b0.1 h; omega) (fun h => by have := bm.1 h; omega) (b7.2 rfl)) $$ [Hx H1 H2 Hp Hs]
      · isplitl [Hx]; · iexact Hx
        isplitl [H1]; · iexact H1
        isplitl [H2]; · iexact H2
        isplitl [Hp]; · iexact Hp
        iexact Hs
      iintro ⟨Hx, H1, H2, Hp, Hs⟩
      iapply Hk
      isplitl [Hx]; · iexact Hx
      isplitl [H1]; · iexact H1
      isplitl [H2]; · iexact H2
      isplitl [Hp]; · iexists _; iexact Hp
      iexact Hs
    · rw [if_neg h7]
      iintro ⟨Hx, H1, H2, Hp, Hs⟩ Hk
      iapply (comp_mid c b _ M1 M2 harg13 (I.xg l) (I.w1 l (j + 1) c) (I.w2 l (j + 1) c) P Q (I.acc l c j) hb (fun h => by have := b0.1 h; omega) (bm.2 ⟨by omega, by omega⟩) (fun h => h7 (b7.1 h))) $$ [Hx H1 H2 Hp]
      · isplitl [Hx]; · iexact Hx
        isplitl [H1]; · iexact H1
        isplitl [H2]; · iexact H2
        iexact Hp
      iintro ⟨Hx, H1, H2, Hp⟩
      iapply Hk
      isplitl [Hx]; · iexact Hx
      isplitl [H1]; · iexact H1
      isplitl [H2]; · iexact H2
      isplitl [Hp]; · iexact Hp
      iexact Hs

/-- The scatter, the output and, at the last point, the closing of the cells. -/
theorem tail_spec (l k : ℕ) (hl : l < 3) (hk : k < 8) (h15 : k0_cond15 i = 1#1 ↔ k = 7) (h16 : k0_cond16 i = 1#1 ↔ 8 * l + k = 23)
    (Q : PUnit → sProp (MT nD τ sig ℕ (Elt F) ℕ UU ℕ)) :
    iprop(records I.xv I.pv K ∗ levAts L lv ∗ SB I c l ∗ pOut I c l k ∗ Ow c (dmaOw 3 c l 0 + futOw c (l + 1)) ∗ any c arg9)
      ⊢ iprop(((St24 I c (8 * l + k + 1) ∗ Ow c (ow24 c (8 * l + k + 1)) ∗ (if 8 * l + k = 23 then own c arg9 (I.xl 3 c) else any c arg9)) -∗ Q ⟨⟩)
          -∗ WP c (ph5 i arg2 harg2 arg3 harg3 arg4 harg4 arg5 harg5 arg6 harg6 arg7 harg7 arg8 harg8 arg9 harg9 xcM harg10 xgM harg11 pM harg12 psM harg13 prM harg14 cc0_scratch5 cc0_scratch6 cc0_scratch7 cc0_scratch8 c (ph6 i arg9 xcM (pure ⟨⟩))) Q) := by
  unfold pOut
  by_cases h7 : k = 7
  · subst h7
    rw [if_pos rfl]
    have hd : (8 * l + 7 + 1) / 8 = l + 1 := by omega
    have hm : (8 * l + 7 + 1) % 8 = 0 := by omega
    iintro ⟨#Hrec, #Hlev, HS, ⟨Hp, Hps⟩, HO, Ho⟩ Hk
    iapply (ph5_spec I K c i arg2 harg2 arg3 harg3 arg4 harg4 arg5 harg5 arg6 harg6 arg7 harg7 arg8 harg8 arg9 harg9 harg10 harg11 harg12 harg13 harg14 (h15.2 rfl) l hl _ rfl _ Q) $$ [HS Hps HO]
    · isplitr; · iexact Hrec
      isplitr; · iexact Hlev
      isplitl [HS]; · iexact HS
      isplitl [Hps]; · iexact Hps
      iexact HO
    iintro ⟨HS, HO⟩
    by_cases hl2 : l = 2
    · subst hl2
      rw [if_pos rfl]
      unfold SA
      icases HS with ⟨Hbar, Hidle, -, Hpos, Hxc, Hxg, Hps, Hpr⟩
      iapply (ph6_spec c i arg9 _ Q (h16.2 rfl) (I.xl 3 c)) $$ [Hxc Ho]
      · isplitl [Hxc]; · iexact Hxc
        iexact Ho
      iintro ⟨Hxc, Ho⟩
      iapply (ret_spec c Q)
      imod (close_all I.xv I.pv K c) $$ [Hbar Hidle Hpos] with Hz
      · isplitr; · iexact Hrec
        isplitl [Hbar]; · iexact Hbar
        isplitl [Hidle]; · iexact Hidle
        iexact Hpos
      imodintro
      iapply Hk
      isplitl [Hz Hxc Hxg Hp Hps Hpr]
      · iapply (show SE c ⊢ (St24 I c (8 * 2 + 7 + 1) : sProp 𝕄) from .rfl)
        unfold SE
        isplitl [Hz]; · iexact Hz
        isplitl [Hxc]; · iexists _; iexact Hxc
        isplitl [Hxg]; · iapply (show (xgAt c 3 : sProp 𝕄) ⊢ any c xgM from .rfl); iexact Hxg
        isplitl [Hp]; · iexact Hp
        isplitl [Hps]; · iexact Hps
        iexact Hpr
      isplitl [HO]; · iexact HO
      iexact Ho
    · rw [if_neg (by omega)]
      iapply (ph6_skip c i arg9 _ Q (fun h => by have := h16.1 h; omega))
      iapply (ret_spec c Q)
      imodintro
      iapply Hk
      unfold St24 ow24
      rw [if_neg (show ¬(8 * l + 7 + 1 = 0) by omega), if_neg (show ¬(8 * l + 7 + 1 = 24) by omega), hm, hd, if_pos rfl, if_neg (show ¬(8 * l + 7 + 1 = 0) by omega), if_pos rfl]
      isplitl [HS Hp]
      · isplitl [HS]; · iexact HS
        iexact Hp
      isplitl [HO]; · iexact HO
      iexact Ho
  · have hd : (8 * l + k + 1) / 8 = l := by omega
    have hm : (8 * l + k + 1) % 8 = k + 1 := by omega
    rw [if_neg h7, if_neg (show ¬(8 * l + k = 23) by omega)]
    iintro ⟨#Hrec, #Hlev, HS, ⟨Hp, Hps⟩, HO, Ho⟩ Hk
    iapply (ph5_skip c i arg2 harg2 arg3 harg3 arg4 harg4 arg5 harg5 arg6 harg6 arg7 harg7 arg8 harg8 arg9 harg9 harg10 harg11 harg12 harg13 harg14 _ Q (fun h => h7 (h15.1 h)))
    iapply (ph6_skip c i arg9 _ Q (fun h => by have := h16.1 h; omega))
    iapply (ret_spec c Q)
    imodintro
    iapply Hk
    unfold St24 ow24
    rw [if_neg (show ¬(8 * l + k + 1 = 0) by omega), if_neg (show ¬(8 * l + k + 1 = 24) by omega), hm, hd, if_neg (show ¬(k + 1 = 0) by omega), if_neg (show ¬(8 * l + k + 1 = 0) by omega), if_neg (show ¬(k + 1 = 0) by omega)]
    isplitl [HS Hp Hps]
    · isplitl [HS]; · iexact HS
      isplitl [Hp]; · iexact Hp
      iexact Hps
    isplitl [HO]; · iexact HO
    iexact Ho
end points

end Cert.KernelIdeal.Mlp

end
-- ==== Proof.KernelIdeal.Dats.lean ====
/-
  The data of the launch: arrays, windows and states, point by point.
-/
module

public import proofs.«01_k».proof.Proof.KernelIdeal.Points
public import proofs.«01_k».proof.Proof.Gen.KernelIdeal.Frame

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The grid has 24 points. -/
theorem N_eq : cfg0.N = 24 := N_0

/-- A point lies below 24. -/
theorem lt24 (t : Fin cfg0.N) : t.val < 24 := lt_of_lt_of_eq t.isLt N_eq

/-- The grid point of block `k` of layer `l`. -/
def pt (l k : ℕ) : Fin cfg0.N := ⟨(8 * l + k) % 24, by rw [N_eq]; exact Nat.mod_lt _ (by decide)⟩

/-- A point is the one of its own layer and block. -/
theorem pt_eq (t : Fin cfg0.N) : pt (t.val / 8) (t.val % 8) = t := by
  have := lt24 t
  exact Fin.ext (show (8 * (t.val / 8) + t.val % 8) % 24 = t.val by omega)

/-- What every device starts with, read off the arrays. -/
def inp : Inp F where
  x0 c := iblk m c 0 (pt 0 0)
  w1 l k c := match l with
    | 0 => iblk m c 1 (pt 0 k)
    | 1 => iblk m c 3 (pt 1 k)
    | _ => iblk m c 5 (pt 2 k)
  w2 l k c := match l with
    | 0 => iblk m c 2 (pt 0 k)
    | 1 => iblk m c 4 (pt 1 k)
    | _ => iblk m c 6 (pt 2 k)

/-- The launch's memory. -/
def s₀ : MemSt nD τ sig (Elt F) := ⟨m, fun _ => 0, ρ⟩

/-- The states between the points, with the records and levels every point uses. -/
def PhiN (c : Dev nD) (n : ℕ) : sProp 𝕄 := iprop(∃ K, records (inp m).xv (inp m).pv K ∗ levAts L lv ∗ St24 (inp m) c n)

/-- The proof's data: the arrays as found, what every window holds after a point, and the states between the points. -/
def dats (_ : Fin 1) (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (inp m).xl 3 c
  Φ t := PhiN m c t.val
  q _ := fullShare
  owed t := ow24 c t.val

variable (c : Dev nD)

/-- What holds before a point. -/
theorem Phi_pre (t : Fin cfg0.N) : (dats m 0 c).Φ t.castSucc = PhiN m c t.val := congrArg (PhiN m c) (show t.castSucc.val = t.val from rfl)
/-- What holds after a point. -/
theorem Phi_post (t : Fin cfg0.N) : PhiN m c (t.val + 1) = (dats m 0 c).Φ t.succ := congrArg (PhiN m c) (show t.val + 1 = t.succ.val from (Fin.val_succ t).symm)

/-- Window 0 holds its fetched block before every point. -/
theorem before_0 (t : Fin cfg0.N) (d) : (dats m 0 c).before 0 t d = iblk m c 0 t :=
  ((dats m 0 c).before_in_eq_fetched 0 rfl (fun _ => rfl) (fun _ _ _ => rfl) (fun _ => rfl) t d).trans rfl
/-- Window 1 holds its fetched block before every point. -/
theorem before_1 (t : Fin cfg0.N) (d) : (dats m 0 c).before 1 t d = iblk m c 1 t :=
  ((dats m 0 c).before_in_eq_fetched 1 rfl (fun _ => rfl) (fun _ _ _ => rfl) (fun _ => rfl) t d).trans rfl
/-- Window 2 holds its fetched block before every point. -/
theorem before_2 (t : Fin cfg0.N) (d) : (dats m 0 c).before 2 t d = iblk m c 2 t :=
  ((dats m 0 c).before_in_eq_fetched 2 rfl (fun _ => rfl) (fun _ _ _ => rfl) (fun _ => rfl) t d).trans rfl
/-- Window 3 holds its fetched block before every point. -/
theorem before_3 (t : Fin cfg0.N) (d) : (dats m 0 c).before 3 t d = iblk m c 3 t :=
  ((dats m 0 c).before_in_eq_fetched 3 rfl (fun _ => rfl) (fun _ _ _ => rfl) (fun _ => rfl) t d).trans rfl
/-- Window 4 holds its fetched block before every point. -/
theorem before_4 (t : Fin cfg0.N) (d) : (dats m 0 c).before 4 t d = iblk m c 4 t :=
  ((dats m 0 c).before_in_eq_fetched 4 rfl (fun _ => rfl) (fun _ _ _ => rfl) (fun _ => rfl) t d).trans rfl
/-- Window 5 holds its fetched block before every point. -/
theorem before_5 (t : Fin cfg0.N) (d) : (dats m 0 c).before 5 t d = iblk m c 5 t :=
  ((dats m 0 c).before_in_eq_fetched 5 rfl (fun _ => rfl) (fun _ _ _ => rfl) (fun _ => rfl) t d).trans rfl
/-- Window 6 holds its fetched block before every point. -/
theorem before_6 (t : Fin cfg0.N) (d) : (dats m 0 c).before 6 t d = iblk m c 6 t :=
  ((dats m 0 c).before_in_eq_fetched 6 rfl (fun _ => rfl) (fun _ _ _ => rfl) (fun _ => rfl) t d).trans rfl

/-- The window of `x` shows the same block at every point. -/
theorem x_same (t : Fin cfg0.N) : iblk m c 0 t = (inp m).x0 c := rfl

/-- The handshake runs at the first point only. -/
theorem cond1_iff : ∀ t : Fin cfg0.N, k0_cond1 (grid0.coords t) = 1#1 ↔ t.val = 0 := by decide +kernel
/-- The gather runs at the first block of a layer. -/
theorem cond2_iff : ∀ t : Fin cfg0.N, k0_cond2 (grid0.coords t) = 1#1 ↔ t.val % 8 = 0 := by decide +kernel
/-- The scatter runs at the last block of a layer. -/
theorem cond15_iff : ∀ t : Fin cfg0.N, k0_cond15 (grid0.coords t) = 1#1 ↔ t.val % 8 = 7 := by decide +kernel
/-- The result is stored at the last point only. -/
theorem cond16_iff : ∀ t : Fin cfg0.N, k0_cond16 (grid0.coords t) = 1#1 ↔ t.val = 23 := by decide +kernel
/-- The products of layer `l` run at the points of layer `l`. -/
theorem layer_iff : ∀ t : Fin cfg0.N, ∀ l : Fin 3, isw (BitVec.ofNat 32 (grid0.coords t 0).val) (BitVec.ofNat 32 l.val) = 1#1 ↔ t.val / 8 = l.val := by decide +kernel
/-- The second coordinate of a point is its block. -/
theorem block_of : ∀ t : Fin cfg0.N, (grid0.coords t 1).val = t.val % 8 := by decide +kernel
/-- The result's window is never fetched. -/
theorem fetch_out : ∀ t : Fin cfg0.N, (cfg0.win 7).fetch t = false := by decide +kernel

/-- The output's buffer is not touched before the last point. -/
theorem before_7 : ∀ (n : ℕ) (t : Fin cfg0.N) (_ : t.val = n) (d), (dats m 0 c).before 7 t d = d
  | 0, t, h, d => by
    unfold Dat.before
    rw [if_neg (by rw [fetch_out t]; exact Bool.false_ne_true), if_pos h]
  | n + 1, t, h, d => by
    have hlt := lt24 t
    unfold Dat.before
    rw [if_neg (by rw [fetch_out t]; exact Bool.false_ne_true), if_neg (by omega)]
    dsimp only
    rw [if_neg (by rw [flush0_7]; dsimp only; omega)]
    have hi : cfg0.idle 7 (cfg0.grid.coords ⟨t.val - 1, Nat.lt_of_le_of_lt (Nat.sub_le _ _) t.isLt⟩) = true := by
      show (!(k0_cond16 (grid0.coords ⟨t.val - 1, _⟩) == 1#1)) = true
      rw [Bool.not_eq_true', beq_eq_false_iff_ne]
      exact fun e => by have := (cond16_iff _).1 e; dsimp only at this; omega
    rw [show idle0 7 (grid0.coords ⟨t.val - 1, Nat.lt_of_le_of_lt (Nat.sub_le _ _) t.isLt⟩) = true from hi]
    dsimp only
    rw [Dat.found_eq_before]
    exact before_7 n ⟨t.val - 1, _⟩ (by dsimp only; omega) d

/-- What the obligation asks of the output's buffer after a point. -/
theorem out_leaves (t : Fin cfg0.N) : (if t.val = 23 then own c (win0_7.stage (cfg0.slots t 7)) ((inp m).xl 3 c) else any c (win0_7.stage (cfg0.slots t 7)))
    ⊢ (dats m 0 c).leavesExact 7 t := by
  unfold Dat.leavesExact
  by_cases h : t.val = 23
  · have hi : cfg0.idle 7 (cfg0.grid.coords t) = false := by
      show (!(k0_cond16 (grid0.coords t) == 1#1)) = false
      rw [Bool.not_eq_false', beq_iff_eq]
      exact (cond16_iff t).2 h
    rw [if_pos h, hi]
    exact .rfl
  · have hlt := lt24 t
    have hi : cfg0.idle 7 (cfg0.grid.coords t) = true := by
      show (!(k0_cond16 (grid0.coords t) == 1#1)) = true
      rw [Bool.not_eq_true', beq_eq_false_iff_ne]
      exact fun e => h ((cond16_iff t).1 e)
    have hf : (cfg0.win 7).flush t = false := Bool.eq_false_iff.2 fun e => by rw [flush0_7] at e; omega
    rw [if_neg h, hi, hf]
    dsimp only
    iintro ⟨%X, H⟩
    iexists X
    rw [before_7 m c t.val t rfl X]
    iexact H

/-- What the body is given at point `t`: the states, the debts and the windows' buffers. -/
def bodyPre (t : Fin cfg0.N) : sProp 𝕄 :=
  iprop(PhiN m c t.val ∗ Ow c (ow24 c t.val)
    ∗ own c (win0_0.stage (cfg0.slots t 0)) ((inp m).x0 c) ∗ own c (win0_1.stage (cfg0.slots t 1)) (iblk m c 1 t) ∗ own c (win0_2.stage (cfg0.slots t 2)) (iblk m c 2 t) ∗ own c (win0_3.stage (cfg0.slots t 3)) (iblk m c 3 t) ∗ own c (win0_4.stage (cfg0.slots t 4)) (iblk m c 4 t) ∗ own c (win0_5.stage (cfg0.slots t 5)) (iblk m c 5 t) ∗ own c (win0_6.stage (cfg0.slots t 6)) (iblk m c 6 t) ∗ any c (win0_7.stage (cfg0.slots t 7)))

/-- What it leaves. -/
def bodyPost (t : Fin cfg0.N) : sProp 𝕄 :=
  iprop(PhiN m c (t.val + 1) ∗ Ow c (ow24 c (t.val + 1))
    ∗ own c (win0_0.stage (cfg0.slots t 0)) ((inp m).x0 c) ∗ own c (win0_1.stage (cfg0.slots t 1)) (iblk m c 1 t) ∗ own c (win0_2.stage (cfg0.slots t 2)) (iblk m c 2 t) ∗ own c (win0_3.stage (cfg0.slots t 3)) (iblk m c 3 t) ∗ own c (win0_4.stage (cfg0.slots t 4)) (iblk m c 4 t) ∗ own c (win0_5.stage (cfg0.slots t 5)) (iblk m c 5 t) ∗ own c (win0_6.stage (cfg0.slots t 6)) (iblk m c 6 t)
    ∗ (if t.val = 23 then own c (win0_7.stage (cfg0.slots t 7)) ((inp m).xl 3 c) else any c (win0_7.stage (cfg0.slots t 7))))

set_option maxHeartbeats 1000000 in
/-- The body at point `t`. -/
theorem body_spec (t : Fin cfg0.N) : bodyPre m c t ⊢ WP c (bodyAt0 t) fun _ => bodyPost m c t := by
  have hlt := lt24 t
  obtain ⟨l, k, hl, hk, ht⟩ : ∃ l k : ℕ, l < 3 ∧ k < 8 ∧ t.val = 8 * l + k := ⟨t.val / 8, t.val % 8, by omega, by omega, by omega⟩
  have hd : t.val / 8 = l := by omega
  have hm : t.val % 8 = k := by omega
  have hpt : pt l k = t := by rw [← hd, ← hm]; exact pt_eq t
  have c1 := cond1_iff t
  have c2 := cond2_iff t
  have c15 := cond15_iff t
  have c16 := cond16_iff t
  have y0 := layer_iff t 0
  have y1 := layer_iff t 1
  have y2 := layer_iff t 2
  have hb := block_of t
  rw [hd] at y0 y1 y2
  rw [hm] at c2 c15 hb
  unfold bodyPre PhiN
  rw [ht] at c1 c16 ⊢
  unfold bodyAt0
  rw [body_eq]
  simp only [wp_deviceId]
  rw [hb]
  iintro ⟨⟨%K, #Hrec, #Hlev, HS⟩, HO, H0, H1, H2, H3, H4, H5, H6, H7⟩
  iapply (head_spec (inp m) K c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.isWhole_whole _) (Memref.isWhole_whole _) (Memref.isWhole_whole _) (Memref.isWhole_whole _) (Memref.isWhole_whole _) _ _ l k hl hk c1 c2) $$ [HS HO H0]
  · isplitr; · iexact Hrec
    isplitr; · iexact Hlev
    isplitl [HS]; · iexact HS
    isplitl [HO]; · iexact HO
    iexact H0
  unfold Mid SB
  iintro ⟨⟨⟨Hbar, Hidle, Hrs, Htok, Hpos, Hxc, Hxg, Hpr, Hpeer⟩, Hp, Hps⟩, HO, H0⟩
  have fin_part : iprop(records (inp m).xv (inp m).pv K ∗ levAts L lv ∗ SB (inp m) c l ∗ pOut (inp m) c l k ∗ Ow c (dmaOw 3 c l 0 + futOw c (l + 1))
      ∗ own c (win0_0.stage (cfg0.slots t 0)) ((inp m).x0 c) ∗ own c (win0_1.stage (cfg0.slots t 1)) (iblk m c 1 t) ∗ own c (win0_2.stage (cfg0.slots t 2)) (iblk m c 2 t) ∗ own c (win0_3.stage (cfg0.slots t 3)) (iblk m c 3 t) ∗ own c (win0_4.stage (cfg0.slots t 4)) (iblk m c 4 t) ∗ own c (win0_5.stage (cfg0.slots t 5)) (iblk m c 5 t) ∗ own c (win0_6.stage (cfg0.slots t 6)) (iblk m c 6 t) ∗ any c (win0_7.stage (cfg0.slots t 7)))
      ⊢ WP c (ph5 (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) xcM (Memref.isWhole_whole _) xgM (Memref.isWhole_whole _) pM (Memref.isWhole_whole _) psM (Memref.isWhole_whole _) prM (Memref.isWhole_whole _) cc0_scratch5 cc0_scratch6 cc0_scratch7 cc0_scratch8 c (ph6 (grid0.coords t) (win0_7.stage (cfg0.slots t 7)) xcM (pure ⟨⟩))) fun _ => bodyPost m c t := by
    iintro ⟨#Hrec, #Hlev, HS, Hp, HO, H0, H1, H2, H3, H4, H5, H6, H7⟩
    iapply (tail_spec (inp m) K c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.isWhole_whole _) (Memref.isWhole_whole _) (Memref.isWhole_whole _) (Memref.isWhole_whole _) (Memref.isWhole_whole _) l k hl hk c15 c16) $$ [HS Hp HO H7]
    · isplitr; · iexact Hrec
      isplitr; · iexact Hlev
      isplitl [HS]; · iexact HS
      isplitl [Hp]; · iexact Hp
      isplitl [HO]; · iexact HO
      iexact H7
    iintro ⟨HS, HO, H7⟩
    unfold bodyPost PhiN
    rw [ht]
    isplitl [HS]
    · iexists K
      isplitr; · iexact Hrec
      isplitr; · iexact Hlev
      iexact HS
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  have hl3 : l = 0 ∨ l = 1 ∨ l = 2 := by omega
  rcases hl3 with rfl | rfl | rfl
  · skip
    iapply (comp_spec (inp m) c _ _ _ (isw (BitVec.ofNat 32 (grid0.coords t 0).val) 0#32) (y0.2 rfl) 0 k hk (win0_1.stage (cfg0.slots t 1)) (win0_2.stage (cfg0.slots t 2)) (iblk m c 1 t) (iblk m c 2 t) (by rw [← hpt]; rfl) (by rw [← hpt]; rfl)) $$ [Hxg H1 H2 Hp Hps]
    · isplitl [Hxg]; · iexact Hxg
      isplitl [H1]; · iexact H1
      isplitl [H2]; · iexact H2
      isplitl [Hp]; · iexact Hp
      iexact Hps
    iintro ⟨Hxg, H1, H2, Hp⟩
    iapply (comp_skip c _ _ (win0_3.stage (cfg0.slots t 3)) (win0_4.stage (cfg0.slots t 4)) _ _ _ (fun h => absurd (y1.1 h) (by decide)))
    iapply (comp_skip c _ _ (win0_5.stage (cfg0.slots t 5)) (win0_6.stage (cfg0.slots t 6)) _ _ _ (fun h => absurd (y2.1 h) (by decide)))
    iapply fin_part
    isplitr; · iexact Hrec
    isplitr; · iexact Hlev
    isplitl [Hbar Hidle Hrs Htok Hpos Hxc Hxg Hpr Hpeer]
    · unfold SB
      isplitl [Hbar]; · iexact Hbar
      isplitl [Hidle]; · iexact Hidle
      isplitl [Hrs]; · iexact Hrs
      isplitl [Htok]; · iexact Htok
      isplitl [Hpos]; · iexact Hpos
      isplitl [Hxc]; · iexact Hxc
      isplitl [Hxg]; · iexact Hxg
      isplitl [Hpr]; · iexact Hpr
      iexact Hpeer
    isplitl [Hp]; · iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    iapply (comp_skip c _ _ (win0_1.stage (cfg0.slots t 1)) (win0_2.stage (cfg0.slots t 2)) _ _ _ (fun h => absurd (y0.1 h) (by decide)))
    iapply (comp_spec (inp m) c _ _ _ (isw (BitVec.ofNat 32 (grid0.coords t 0).val) 1#32) (y1.2 rfl) 1 k hk (win0_3.stage (cfg0.slots t 3)) (win0_4.stage (cfg0.slots t 4)) (iblk m c 3 t) (iblk m c 4 t) (by rw [← hpt]; rfl) (by rw [← hpt]; rfl)) $$ [Hxg H3 H4 Hp Hps]
    · isplitl [Hxg]; · iexact Hxg
      isplitl [H3]; · iexact H3
      isplitl [H4]; · iexact H4
      isplitl [Hp]; · iexact Hp
      iexact Hps
    iintro ⟨Hxg, H3, H4, Hp⟩
    iapply (comp_skip c _ _ (win0_5.stage (cfg0.slots t 5)) (win0_6.stage (cfg0.slots t 6)) _ _ _ (fun h => absurd (y2.1 h) (by decide)))
    iapply fin_part
    isplitr; · iexact Hrec
    isplitr; · iexact Hlev
    isplitl [Hbar Hidle Hrs Htok Hpos Hxc Hxg Hpr Hpeer]
    · unfold SB
      isplitl [Hbar]; · iexact Hbar
      isplitl [Hidle]; · iexact Hidle
      isplitl [Hrs]; · iexact Hrs
      isplitl [Htok]; · iexact Htok
      isplitl [Hpos]; · iexact Hpos
      isplitl [Hxc]; · iexact Hxc
      isplitl [Hxg]; · iexact Hxg
      isplitl [Hpr]; · iexact Hpr
      iexact Hpeer
    isplitl [Hp]; · iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · skip
    iapply (comp_skip c _ _ (win0_1.stage (cfg0.slots t 1)) (win0_2.stage (cfg0.slots t 2)) _ _ _ (fun h => absurd (y0.1 h) (by decide)))
    iapply (comp_skip c _ _ (win0_3.stage (cfg0.slots t 3)) (win0_4.stage (cfg0.slots t 4)) _ _ _ (fun h => absurd (y1.1 h) (by decide)))
    iapply (comp_spec (inp m) c _ _ _ (isw (BitVec.ofNat 32 (grid0.coords t 0).val) 2#32) (y2.2 rfl) 2 k hk (win0_5.stage (cfg0.slots t 5)) (win0_6.stage (cfg0.slots t 6)) (iblk m c 5 t) (iblk m c 6 t) (by rw [← hpt]; rfl) (by rw [← hpt]; rfl)) $$ [Hxg H5 H6 Hp Hps]
    · isplitl [Hxg]; · iexact Hxg
      isplitl [H5]; · iexact H5
      isplitl [H6]; · iexact H6
      isplitl [Hp]; · iexact Hp
      iexact Hps
    iintro ⟨Hxg, H5, H6, Hp⟩
    iapply fin_part
    isplitr; · iexact Hrec
    isplitr; · iexact Hlev
    isplitl [Hbar Hidle Hrs Htok Hpos Hxc Hxg Hpr Hpeer]
    · unfold SB
      isplitl [Hbar]; · iexact Hbar
      isplitl [Hidle]; · iexact Hidle
      isplitl [Hrs]; · iexact Hrs
      isplitl [Htok]; · iexact Htok
      isplitl [Hpos]; · iexact Hpos
      isplitl [Hxc]; · iexact Hxc
      isplitl [Hxg]; · iexact Hxg
      isplitl [Hpr]; · iexact Hpr
      iexact Hpeer
    isplitl [Hp]; · iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
set_option maxRecDepth 4000 in
/-- The obligation the launch asks of the body, at every point. -/
theorem body_obligation (c : Dev nD) : BodyObligation (dats (F := F) m 0 c) (defs₀ (F := F)) 𝒱₀ 0 Set.univ := fun t => by
  rw [show (bigSep Finset.univ fun w : Fin cfg0.W => iprop(∃ d, owns (c : Thread nD τ) ((cfg0.win w).stage (cfg0.slots t w)) fullShare ((dats m 0 c).before w t d)) : sProp 𝕄) = _ from bigSep_W0 _]
  refine BIBase.Entails.trans ?_ ((body_spec m c t).trans (wp_mono _ _ _ fun _ => ?_))
  · unfold bodyPre
    iintro ⟨HS, HO, ⟨%d0, H0⟩, ⟨%d1, H1⟩, ⟨%d2, H2⟩, ⟨%d3, H3⟩, ⟨%d4, H4⟩, ⟨%d5, H5⟩, ⟨%d6, H6⟩, ⟨%d7, H7⟩⟩
    unfold Dat.owesAt Pipeline.owesWithin
    icases HO with ⟨%W, %hW, HO⟩
    isplitl [HS]; · iapply (Entails.of_eq (Phi_pre m c t)); iexact HS
    isplitl [HO]; · unfold Ow; iexists W; iexact HO
    ihave H0 := (Entails.of_eq (congrArg (fun X => owns (c : Thread nD τ) (win0_0.stage (cfg0.slots t 0)) fullShare X) (before_0 m c t d0))) $$ H0
    isplitl [H0]; · iexact H0
    ihave H1 := (Entails.of_eq (congrArg (fun X => owns (c : Thread nD τ) (win0_1.stage (cfg0.slots t 1)) fullShare X) (before_1 m c t d1))) $$ H1
    isplitl [H1]; · iexact H1
    ihave H2 := (Entails.of_eq (congrArg (fun X => owns (c : Thread nD τ) (win0_2.stage (cfg0.slots t 2)) fullShare X) (before_2 m c t d2))) $$ H2
    isplitl [H2]; · iexact H2
    ihave H3 := (Entails.of_eq (congrArg (fun X => owns (c : Thread nD τ) (win0_3.stage (cfg0.slots t 3)) fullShare X) (before_3 m c t d3))) $$ H3
    isplitl [H3]; · iexact H3
    ihave H4 := (Entails.of_eq (congrArg (fun X => owns (c : Thread nD τ) (win0_4.stage (cfg0.slots t 4)) fullShare X) (before_4 m c t d4))) $$ H4
    isplitl [H4]; · iexact H4
    ihave H5 := (Entails.of_eq (congrArg (fun X => owns (c : Thread nD τ) (win0_5.stage (cfg0.slots t 5)) fullShare X) (before_5 m c t d5))) $$ H5
    isplitl [H5]; · iexact H5
    ihave H6 := (Entails.of_eq (congrArg (fun X => owns (c : Thread nD τ) (win0_6.stage (cfg0.slots t 6)) fullShare X) (before_6 m c t d6))) $$ H6
    isplitl [H6]; · iexact H6
    iexists _; iexact H7
  · show bodyPost m c t ⊢ iprop((dats m 0 c).Φ t.succ ∗ (dats m 0 c).owesAt 0 t.succ ∗ bigSep Finset.univ fun w : Fin cfg0.W => (dats m 0 c).leavesExact w t)
    rw [show (bigSep Finset.univ fun w : Fin cfg0.W => (dats m 0 c).leavesExact w t : sProp 𝕄) = _ from bigSep_W0 _]
    unfold bodyPost Ow
    iintro ⟨HS, ⟨%W, HO⟩, H0, H1, H2, H3, H4, H5, H6, H7⟩
    isplitl [HS]; · iapply (Entails.of_eq (Phi_post m c t)); iexact HS
    isplitl [HO]
    · unfold Dat.owesAt Pipeline.owesWithin
      iexists W
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (out_leaves m c t); iexact H7

end Cert.KernelIdeal.Mlp

end
-- ==== Proof.KernelIdeal.Launch.lean ====
/-
  The launch: its cells, tokens and credits, and the run of the kernel on the eight devices.
-/
module

public import proofs.«01_k».proof.Proof.KernelIdeal.Dats
public import Idealize.ShloMosaic.Lib.Pipeline.CollectiveSegs

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and tokens of the launch -/

/-- The transfer semaphores, the kernel's own. -/
abbrev osem : Fin 4 × Fin 8 → SemLoc sig := fun p => csem (some p)

/-- The kernel's own semaphores are scoped, distinct, and none of the pipeline's. -/
theorem ownSemFacts : Pipeline.OwnSemFacts cfg0.spec osem where
  isScoped := by decide +kernel
  inj := fun a b h => Option.some.inj (csem_inj h)
  disj := by decide +kernel

/-- Every window is held outright. -/
theorem share_eq (c : Dev nD) (w : Fin cfg0.W) : (dats m 0 c).share w = fullShare := by unfold Dat.share; split <;> rfl

/-- Distinct devices or kinds have distinct cells. -/
theorem cell_inj : Function.Injective fun ck : Dev nD × Kind => cell ck.1 ck.2 := by
  rintro ⟨c, k⟩ ⟨c', k'⟩ h
  have h1 : c = c' := congrArg (fun g : GSem nD τ sig => g.1.1) h
  have h2 : k = k' := csem_inj (congrArg Prod.snd h)
  rw [h1, h2]
/-- Every cell of every device. -/
def allCells : Finset (GSem nD τ sig) := Finset.univ.map ⟨fun ck : Dev nD × Kind => cell ck.1 ck.2, cell_inj⟩

/-- A token of every cell, round and duty. -/
abbrev tokOf (x : Dev nD × Kind × Fin 3 × Fin 8) : GSem nD τ sig × ℕ × Fin 8 := (cell x.1 x.2.1, x.2.2.1.val, x.2.2.2)
/-- Distinct duties have distinct tokens. -/
theorem tokOf_inj : Function.Injective tokOf := by
  rintro ⟨c, k, r, d⟩ ⟨c', k', r', d'⟩ h
  have h1 : (c, k) = (c', k') := cell_inj (congrArg Prod.fst h)
  have h2 : r = r' := Fin.ext (congrArg (fun x : GSem nD τ sig × ℕ × Fin 8 => x.2.1) h)
  have h3 : d = d' := congrArg (fun x : GSem nD τ sig × ℕ × Fin 8 => x.2.2) h
  obtain ⟨rfl, rfl⟩ := Prod.mk.inj h1
  rw [h2, h3]
def allToks : Finset (GSem nD τ sig × ℕ × Fin 8) := Finset.univ.map ⟨tokOf, tokOf_inj⟩

/-- The launch's ghost state: the pipeline's and the kernel's. -/
def u₀ : UU := (initOf (Pipeline.cells cfgs cellOf_inj) (Pipeline.launchToks cfgs cellOf_inj), initOf allCells allToks)

/-- The tokens of device `c`'s own cells. -/
def ownToks (c : Dev nD) : sProp 𝕄 :=
  bigSep Finset.univ fun k : Kind => bigSep Finset.univ fun r : Fin 3 => bigSep Finset.univ fun d : Fin 8 => dutyTok ER (cell c k) r.val d

/-- What the launch deals device `c`. -/
def G (c : Dev nD) : sProp 𝕄 :=
  iprop((bigSep Finset.univ fun k : Kind => roundState ER (Rd (inp m).xv (inp m).pv) (cell c k) 0)
    ∗ ((bigSep Finset.univ fun k : Kind => atPos ER (cell c k) 0 ∅ 0) ∗ bigSep Finset.univ fun k : Kind => reached ER (cell c k) 0) ∗ ownToks c)

/-- A family over devices and something else, device by device. -/
theorem big_dev {T : Type} [Fintype T] (Φ : Dev nD × T → sProp 𝕄) : bigSep Finset.univ Φ = bigSep Finset.univ fun c : Dev nD => bigSep Finset.univ fun t : T => Φ (c, t) :=
  bigSep_univ_prod Φ

/-- The initial element of the rounds deals every device its share. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kind => Φ (cell c k) := by
    unfold allCells; rw [bigSep_map, big_dev]; rfl
  have hT : bigSep allToks (fun x => (dutyTok ER x.1 x.2.1 x.2.2 : sProp 𝕄)) = bigSep Finset.univ fun c : Dev nD => ownToks c := by
    unfold allToks; rw [bigSep_map, big_dev]
    refine bigSep_congr fun c _ => ?_
    unfold ownToks
    rw [bigSep_univ_prod]
    refine bigSep_congr fun k _ => ?_
    rw [bigSep_univ_prod]
    rfl
  iintro HX
  imod (Rounds.fund ER (Rd (inp m).xv (inp m).pv) allCells allToks) $$ HX with ⟨Hst, Hr, Hat, Htok⟩
  imodintro
  ihave Hst := (Entails.of_eq (hX fun g => roundState ER (Rd (inp m).xv (inp m).pv) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The semaphores at zero -/

/-- The one semaphore that outlives the kernel is the barrier's. -/
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

/-- The kernel's own semaphores and the barrier's are the cells. -/
theorem sems0_eq (c : Dev nD) :
    (iprop(unscopedSems0 c ∗ Pipeline.ownSems0 (Ix := ℕ) (Name := ℕ) (U := UU) (Lvl := ℕ) (Val := Elt F) (τ := τ) osem c) : sProp 𝕄)
      = bigSep Finset.univ fun k : Kind => semVal (cell c k) 0 := by
  rw [unscopedSems0_eq, big_kind]
  unfold Pipeline.ownSems0
  rw [bigSep_univ_prod]

/-! ## The cells' invariants, and who holds which token -/

/-- A device's cells are set up from its semaphores at zero. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind => iprop(∃ κ : ℕ, cellInv ER (Rd (inp m).xv (inp m).pv) κ (cell c k)))
          ∗ ((bigSep Finset.univ fun k : Kind => atPos ER (cell c k) 0 ∅ 0) ∗ bigSep Finset.univ fun k : Kind => reached ER (cell c k) 0) ∗ ownToks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Kind => semVal (cell c k) 0) ∗ bigSep Finset.univ fun k : Kind => roundState ER (Rd (inp m).xv (inp m).pv) (cell c k) 0)
      ⊢ (|={Set.univ}=> bigSep Finset.univ fun k : Kind => iprop(∃ κ : ℕ, cellInv ER (Rd (inp m).xv (inp m).pv) κ (cell c k)) : sProp 𝕄) from by
        rw [← bigSep_sep']
        exact (bigSep_mono fun k _ => (Rounds.body_intro ER (Rd (inp m).xv (inp m).pv) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with: a unit to every other device's barrier, and two transfers to each in every layer. -/
def payToks (c : Dev nD) : sProp 𝕄 :=
  iprop((bigSep (todo 0) fun o => dutyTok ER (cell (ofs c o) none) 0 o)
    ∗ bigSep Finset.univ fun r : Fin 3 => bigSep (todo 0) fun o => iprop(sendTok 0 1 c r.val o ∗ sendTok 2 3 c r.val o))

/-- What stays with device `c`. -/
def lin (c : Dev nD) : sProp 𝕄 := iprop((bigSep Finset.univ fun k : Kind => atPos ER (cell c k) 0 ∅ 0) ∗ payToks c)
/-- What the global step makes of it. -/
def G' (c : Dev nD) : sProp 𝕄 := iprop(∃ K, records (inp m).xv (inp m).pv K ∗ lin c)

/-- A family over two indices may be read in either order. -/
theorem big_swap {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty => simp
  | insert a s ha ih =>
    rw [bigSep_insert ha, ih]
    exact (bigSep_sep' t (Φ a) _).symm.trans (bigSep_congr fun j _ => (bigSep_insert ha (Φ := fun i => Φ i j)).symm)

/-- What is held for every device and offset may be held by the device that is that far before. -/
theorem big_around (Φ : Dev nD → Fin 8 → sProp 𝕄) :
    (bigSep Finset.univ fun c : Dev nD => bigSep (todo 0) fun o => Φ c o) = bigSep Finset.univ fun c : Dev nD => bigSep (todo 0) fun o => Φ (ofs c o) o := by
  rw [big_swap, big_swap Finset.univ (todo 0) fun c o => Φ (ofs c o) o]
  exact bigSep_congr fun o _ => bigSep_univ_equiv (shiftE o) (fun c => Φ c o)

/-- The tokens of family `j`, round by round. -/
theorem fam_toks (c : Dev nD) (j : Fin 4) :
    (bigSep Finset.univ fun o : Fin 8 => bigSep Finset.univ fun r : Fin 3 => bigSep Finset.univ fun d : Fin 8 => dutyTok ER (cell c (some (j, o))) r.val d)
      ⊢ (bigSep (todo 0) fun o => bigSep Finset.univ fun r : Fin 3 => dutyTok ER (cell c (some (j, o))) r.val 0 : sProp 𝕄) := by
  rw [big_zero]
  iintro ⟨-, H⟩
  have e : (bigSep (todo 0) fun o : Fin 8 => bigSep Finset.univ fun r : Fin 3 => bigSep Finset.univ fun d : Fin 8 => dutyTok ER (cell c (some (j, o))) r.val d)
      ⊢ (bigSep (todo 0) fun o => bigSep Finset.univ fun r : Fin 3 => dutyTok ER (cell c (some (j, o))) r.val 0 : sProp 𝕄) :=
    bmono fun o _ => bmono fun r _ => belim (Finset.mem_univ 0)
  iapply e
  iexact H

/-- The tokens of a device's own cells, family by family. -/
theorem own_toks (c : Dev nD) : ownToks c ⊢ (iprop((bigSep (todo 0) fun o => dutyTok ER (cell c none) 0 o)
    ∗ (bigSep (todo 0) fun o => bigSep Finset.univ fun r : Fin 3 => dutyTok ER (cell c (some (0, o))) r.val 0)
    ∗ (bigSep (todo 0) fun o => bigSep Finset.univ fun r : Fin 3 => dutyTok ER (cell c (some (1, o))) r.val 0)
    ∗ (bigSep (todo 0) fun o => bigSep Finset.univ fun r : Fin 3 => dutyTok ER (cell c (some (2, o))) r.val 0)
    ∗ bigSep (todo 0) fun o => bigSep Finset.univ fun r : Fin 3 => dutyTok ER (cell c (some (3, o))) r.val 0) : sProp 𝕄) := by
  unfold ownToks
  rw [big_kind, big_fam]
  iintro ⟨Hb, H0, H1, H2, H3⟩
  isplitl [Hb]
  · ihave Hb := (belim (Φ := fun r : Fin 3 => (bigSep Finset.univ fun d : Fin 8 => dutyTok ER (cell c none) r.val d : sProp 𝕄)) (Finset.mem_univ (0 : Fin 3))) $$ Hb
    ihave Hb := (Entails.of_eq (big_zero fun d => (dutyTok ER (cell c none) (0 : Fin 3).val d : sProp 𝕄))) $$ Hb
    icases Hb with ⟨-, Hb⟩
    iexact Hb
  isplitl [H0]; · iapply (fam_toks c 0); iexact H0
  isplitl [H1]; · iapply (fam_toks c 1); iexact H1
  isplitl [H2]; · iapply (fam_toks c 2); iexact H2
  iapply (fam_toks c 3); iexact H3

/-- The tokens of all cells, handed to the devices that pay them. -/
theorem toks_around : (bigSep Finset.univ fun c : Dev nD => (ownToks c : sProp 𝕄)) ⊢ bigSep Finset.univ fun c : Dev nD => payToks c := by
  refine BIBase.Entails.trans (bmono fun c _ => own_toks c) ?_
  rw [bigSep_sep', bigSep_sep', bigSep_sep', bigSep_sep', big_around fun c o => (dutyTok ER (cell c none) 0 o : sProp 𝕄),
    big_around fun c o => (bigSep Finset.univ fun r : Fin 3 => dutyTok ER (cell c (some (1, o))) r.val 0 : sProp 𝕄),
    big_around fun c o => (bigSep Finset.univ fun r : Fin 3 => dutyTok ER (cell c (some (3, o))) r.val 0 : sProp 𝕄),
    ← bigSep_sep', ← bigSep_sep', ← bigSep_sep', ← bigSep_sep']
  refine bmono fun c _ => ?_
  unfold payToks sendTok
  simp only [big_swap Finset.univ (todo 0), bigSep_sep']
  iintro ⟨Hb, H0, H1, H2, H3⟩
  isplitl [Hb]; · iexact Hb
  isplitl [H0 H1]
  · isplitl [H0]; · iexact H0
    iexact H1
  isplitl [H2]; · iexact H2
  iexact H3

/-- What all devices set up, dealt out anew so that each has what it needs. -/
theorem regroup :
    (bigSep Finset.univ fun c : Dev nD => iprop((bigSep Finset.univ fun k : Kind => iprop(∃ κ : ℕ, cellInv ER (Rd (inp m).xv (inp m).pv) κ (cell c k)))
          ∗ ((bigSep Finset.univ fun k : Kind => atPos ER (cell c k) 0 ∅ 0) ∗ bigSep Finset.univ fun k : Kind => reached ER (cell c k) 0) ∗ ownToks c) : sProp 𝕄)
      ⊢ bigSep Finset.univ (G' m) := by
  rw [bigSep_sep', bigSep_sep', bigSep_sep', ← big_dev (fun ck : Dev nD × Kind => iprop(∃ κ : ℕ, cellInv ER (Rd (inp m).xv (inp m).pv) κ (cell ck.1 ck.2))),
    ← big_dev (fun ck : Dev nD × Kind => (reached ER (cell ck.1 ck.2) 0 : sProp 𝕄))]
  iintro ⟨HI, ⟨Hat, #HR⟩, Htok⟩
  ihave HK := (BI.bigSep_exists_pi Finset.univ (fun (ck : Dev nD × Kind) (κ : ℕ) => (cellInv ER (Rd (inp m).xv (inp m).pv) κ (cell ck.1 ck.2) : sProp 𝕄))) $$ HI
  icases HK with ⟨%K, #HI⟩
  ihave Htk := (toks_around (F := F)) $$ Htok
  have e : iprop(records (inp m).xv (inp m).pv K ∗ bigSep Finset.univ fun c : Dev nD => (lin c : sProp 𝕄)) ⊢ bigSep Finset.univ (G' m) := bwith fun c _ => by
    unfold G'
    iintro H
    iexists K
    iexact H
  iapply e
  isplitr
  · unfold records; isplitl; · iexact HI
    iexact HR
  · iapply (show iprop((bigSep Finset.univ fun c : Dev nD => bigSep Finset.univ fun k : Kind => atPos ER (cell c k) 0 ∅ 0) ∗ bigSep Finset.univ fun c : Dev nD => payToks c)
      ⊢ (bigSep Finset.univ fun c : Dev nD => (lin c : sProp 𝕄)) from bzip _ _ _)
    isplitl [Hat]; · iexact Hat
    iexact Htk

/-- The global step: the semaphores of every device become cells, and every device gets what it works with. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

/-- What every device owes at launch. -/
def O₀ (c : Dev nD) : CellTallies nD τ sig ℕ := barOw c 0 + futOw c 0

/-- A credit of one unit more. -/
theorem tally_succ (g : GSem nD τ sig) (n : ℕ) : (tallyAt g 0 (n + 1) : CellTallies nD τ sig ℕ) = tallyAt g 0 1 + tallyAt g 0 n := by
  unfold tallyAt
  rw [add_comm n 1, Finsupp.single_add, tallyOn_add]

/-- Single units of credit add up. -/
theorem cred_units (g : GSem nD τ sig) (s : Finset (Fin 8)) : (bigSep s fun _ => cred (tallyAt g 0 1)) ⊢ (cred (tallyAt g 0 s.card) : sProp 𝕄) := by
  induction s using Finset.induction_on with
  | empty =>
    rw [Finset.card_empty, show (tallyAt g 0 0 : CellTallies nD τ sig ℕ) = 0 from by unfold tallyAt; rw [Finsupp.single_zero, tallyOn_zero], cred_zero]
    exact Entails.of_eq bigSep_empty
  | insert a s ha ih =>
    rw [Finset.card_insert_of_notMem ha, tally_succ g s.card, bigSep_insert ha]
    rw [show (cred (tallyAt g 0 1 + tallyAt g 0 s.card) : sProp 𝕄) = iprop(cred (tallyAt g 0 1) ∗ cred (tallyAt g 0 s.card)) from
      BI.Entails.antisymm (cred_add _ _).1 (cred_add _ _).2]
    exact BI.sep_mono_r ih

/-- A block every device owes the one `o` places after it is a block every device is owed. -/
theorem cred_fam (c : Dev nD) (k : Fin 8 → Kind) (r n : ℕ) :
    (Pipeline.launchCred (fun d : Dev nD => ∑ o ∈ todo 0, tallyAt (cell (ofs d o) (k o)) r n) c : sProp 𝕄) ⊢ bigSep (todo 0) fun o => cred (tallyAt (cell c (k o)) r n) := by
  rw [Pipeline.launchCred_sum (todo 0) (fun o d => tallyAt (cell (ofs d o) (k o)) r n)]
  exact bigSep_mono fun o _ => Pipeline.launchCred_tallyAt (csem (k o)) (fun d => ofs d o) (fun d => ofs d (neg o)) (fun d => ofs_neg' d o) (fun d => ofs_neg d o) r n c

/-- The launch credit of a device is what it will wait for. -/
theorem creds (c : Dev nD) : (Pipeline.launchCred O₀ c : sProp 𝕄)
    ⊢ iprop(cred (tallyAt (cell c none) 0 7) ∗ bigSep (Finset.Ico 0 3) fun r => iprop((bigSep (todo 0) fun o => recvTok 1 c r o) ∗ bigSep (todo 0) fun o => recvTok 3 c r o)) := by
  have e : (Pipeline.launchCred O₀ c : sProp 𝕄) = iprop(Pipeline.launchCred (fun d => barOw d 0) c ∗ Pipeline.launchCred (fun d => futOw d 0) c) :=
    Pipeline.launchCred_add (fun d => barOw d 0) (fun d => futOw d 0) c
  rw [e]
  refine BI.sep_mono ?_ ?_
  · exact (cred_fam c (fun _ => none) 0 1).trans (cred_units (cell c none) (todo 0))
  · have e2 : (Pipeline.launchCred (fun d => futOw d 0) c : sProp 𝕄) = bigSep (Finset.Ico 0 3) fun r => Pipeline.launchCred (fun d => dmaOw 1 d r 0 + dmaOw 3 d r 0) c :=
      Pipeline.launchCred_sum (Finset.Ico 0 3) (fun r d => dmaOw 1 d r 0 + dmaOw 3 d r 0) c
    rw [e2]
    refine bigSep_mono fun r _ => ?_
    rw [Pipeline.launchCred_add]
    exact BI.sep_mono (cred_fam c (fun o => some (1, o)) r N) (cred_fam c (fun o => some (3, o)) r N)

/-! ## The theorem's side conditions -/

/-- What a device starts from, its buffers apart. -/
def start (c : Dev nD) : sProp 𝕄 :=
  iprop(levAts L lv ∗ (cred (tallyAt (cell c none) 0 7) ∗ bigSep (Finset.Ico 0 3) fun r => iprop((bigSep (todo 0) fun o => recvTok 1 c r o) ∗ bigSep (todo 0) fun o => recvTok 3 c r o)) ∗ G' m c)

/-- A device starts with what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [Hlev]; · iexact Hlev
    isplitl [Hc]; · iexact Hc
    iexact HG
  · iempintro

/-- A whole buffer at some contents. -/
theorem whole_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  have h1 : (iprop(∃ f : Buf (Elt F) ((c : Thread nD τ).loc b), ((c : Thread nD τ).loc b) ↦{fullShare} f) : sProp 𝕄) ⊢ iprop(∃ X, owns (c : Thread nD τ) (Memref.whole b) fullShare X) := by
    unfold owns
    simp only [Memref.view_whole, View.read_whole, View.set_whole]
    iintro ⟨%f, H⟩
    iexists f
    iexists f
    isplitr
    · ipureintro; rfl
    iexact H
  have h2 : iprop(∃ X, owns (c : Thread nD τ) (Memref.whole b) fullShare X) ⊢ (iprop(∃ f : Buf (Elt F) ((c : Thread nD τ).loc b), ((c : Thread nD τ).loc b) ↦{fullShare} f) : sProp 𝕄) := by
    unfold owns
    simp only [Memref.view_whole, View.read_whole, View.set_whole]
    iintro ⟨%X, %f, -, H⟩
    iexists f
    iexact H
  exact BI.Entails.antisymm h1 h2

/-- The tokens and credits of all three layers. -/
theorem toks_all (c : Dev nD) :
    iprop((bigSep Finset.univ fun r : Fin 3 => bigSep (todo 0) fun o => iprop(sendTok 0 1 c r.val o ∗ sendTok 2 3 c r.val o))
      ∗ bigSep (Finset.Ico 0 3) fun r => iprop((bigSep (todo 0) fun o => recvTok 1 c r o) ∗ bigSep (todo 0) fun o => recvTok 3 c r o)) ⊢ (toks c 0 : sProp 𝕄) := by
  have e : (bigSep Finset.univ fun r : Fin 3 => bigSep (todo 0) fun o => iprop(sendTok 0 1 c r.val o ∗ sendTok 2 3 c r.val o))
      = (bigSep (Finset.Ico 0 3) fun r : ℕ => bigSep (todo 0) fun o => iprop(sendTok 0 1 c r o ∗ sendTok 2 3 c r o) : sProp 𝕄) := by
    rw [show Finset.Ico 0 3 = (Finset.univ : Finset (Fin 3)).map ⟨Fin.val, Fin.val_injective⟩ from by decide, bigSep_map]
    rfl
  rw [e]
  unfold toks agTok rsTok
  simp only [bigSep_sep']
  iintro ⟨⟨H1, H2⟩, H3, H4⟩
  isplitl [H1 H3]
  · isplitl [H1]; · iexact H1
    iexact H3
  isplitl [H2]; · iexact H2
  iexact H4

/-- All cells of a device stand before their first round. -/
theorem start_pos (K : Dev nD × Kind → ℕ) (c : Dev nD) : iprop(records (inp m).xv (inp m).pv K ∗ bigSep Finset.univ fun k : Kind => atPos ER (cell c k) 0 ∅ 0)
    ⊢ iprop(atPos ER (cell c none) 0 ∅ 0 ∗ idle4 c ∗ posn c 0 0) := by
  iintro ⟨#Hrec, H⟩
  ihave H := (Entails.of_eq (big_kind fun k => (atPos ER (cell c k) 0 ∅ 0 : sProp 𝕄))) $$ H
  icases H with ⟨Hb, H⟩
  isplitl [Hb]; · iexact Hb
  have e : (bigSep Finset.univ fun j : Fin 4 => bigSep Finset.univ fun o : Fin 8 => atPos ER (cell c (some (j, o))) 0 ∅ 0)
      ⊢ (iprop(idle4 c ∗ bigSep Finset.univ fun j : Fin 4 => bigSep (todo 0) fun o => atPos ER (cell c (some (j, o))) 0 ∅ 0) : sProp 𝕄) := by
    refine BIBase.Entails.trans (bmono fun j _ => Entails.of_eq (big_zero fun o => (atPos ER (cell c (some (j, o))) 0 ∅ 0 : sProp 𝕄))) ?_
    exact bunzip _ _ _
  ihave H := e $$ H
  icases H with ⟨Hi, H⟩
  isplitl [Hi]; · iexact Hi
  unfold posn
  have e2 (j : Fin 4) : iprop(records (inp m).xv (inp m).pv K ∗ bigSep (todo 0) fun o => atPos ER (cell c (some (j, o))) 0 ∅ 0) ⊢ (bigSep (todo 0) fun o => posAt j c 0 o : sProp 𝕄) :=
    bwith fun o _ => by
      unfold posAt
      iintro ⟨#Hr, H⟩
      isplitl [H]; · iexact H
      iapply (reached_at (inp m).xv (inp m).pv K c (some (j, o))); iexact Hr
  ihave H := (Entails.of_eq (big_fam fun j => (bigSep (todo 0) fun o => atPos ER (cell c (some (j, o))) 0 ∅ 0 : sProp 𝕄))) $$ H
  icases H with ⟨H0, H1, H2, H3⟩
  isplitl [H0]; · iapply (e2 0); isplitr; · iexact Hrec
                  iexact H0
  isplitl [H1]; · iapply (e2 1); isplitr; · iexact Hrec
                  iexact H1
  isplitl [H2]; · iapply (e2 2); isplitr; · iexact Hrec
                  iexact H2
  iapply (e2 3); isplitr; · iexact Hrec
  iexact H3

/-- What holds before the first point holds at the start. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = PhiN m c 0 from rfl, scopedRest0_eq]
  simp only [whole_any]
  unfold start G' PhiN lin payToks
  iintro ⟨⟨#Hlev, ⟨Hcb, Hcr⟩, ⟨%K, #Hrec, Hat, Hbt, Hst⟩⟩, -, H0, H1, H2, H3, H4⟩
  iexists K
  isplitr; · iexact Hrec
  isplitr; · iexact Hlev
  iapply (show S0 c ⊢ (St24 (inp m) c 0 : sProp 𝕄) from .rfl)
  unfold S0
  ihave Hp := (start_pos m K c) $$ [Hat]
  · isplitr; · iexact Hrec
    iexact Hat
  icases Hp with ⟨Hb, Hi, Hp⟩
  isplitl [Hb]; · iexact Hb
  isplitl [Hcb]; · iexact Hcb
  isplitl [Hbt]; · iexact Hbt
  isplitl [Hi]; · iexact Hi
  isplitl [Hst Hcr]
  · iapply (toks_all c)
    isplitl [Hst]; · iexact Hst
    iexact Hcr
  isplitl [Hp]; · iexact Hp
  isplitl [H0]; · iexact H0
  isplitl [H1]; · iexact H1
  isplitl [H2]; · iexact H2
  isplitl [H3]; · iexact H3
  iexact H4

/-- After the last point the semaphores are at zero and the scratch buffers are given back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = PhiN m c 24 from congrArg (PhiN m c) (show (Fin.last cfg0.N).val = 24 from N_eq), scopedRest0_eq]
  simp only [whole_any]
  unfold PhiN
  iintro ⟨%K, -, -, H⟩
  ihave H := (show (St24 (inp m) c 24 : sProp 𝕄) ⊢ SE c from .rfl) $$ H
  unfold SE
  icases H with ⟨Hz, H0, H1, H2, H3, H4⟩
  ihave Hz := (Entails.of_eq (sems0_eq (F := F) c).symm) $$ Hz
  icases Hz with ⟨Hu, Ho⟩
  isplitl [Hu]; · iexact Hu
  isplitl [Ho]; · iexact Ho
  isplitl [H0]; · iexact H0
  isplitl [H1]; · iexact H1
  isplitl [H2]; · iexact H2
  isplitl [H3]; · iexact H3
  iexact H4

/-- What is owed before any point lies above the pipeline's own semaphores. -/
theorem above_ow (c : Dev nD) (n : ℕ) (hn : n ≤ 24) : Above 0 (ow24 c n) := by
  unfold ow24
  split
  · exact above_add (above_bar c 0) (above_fut 0 c 0 (by omega))
  · split
    · exact above_fut 0 c _ (by omega)
    · exact above_add (above_rs 0 c _ 0 (by omega) (by omega)) (above_fut 0 c _ (by omega))

/-- The pipeline's semaphores are none of the cells. -/
theorem stage_kind : ∀ (w : Fin 8) (s : Fin (spec0 w).nbuf), kindOf (.dma ((spec0 w).sem s)) = none := by decide +kernel

/-- The pipeline's own waits are allowed. -/
theorem waits (c : Dev nD) : (levAts L lv : sProp 𝕄) ⊢ Pipeline.cellsWaits cfgs (dats m) 0 0 c :=
  Pipeline.cellsWaits_intro cfgs (dats m) 0 0 c fun w s t =>
    may_wait c _ 0 (by decide) (by
      rw [show lv ((c : Thread nD τ), .dma (((cfgs 0).win w).sem s)) 0 = 0 from by unfold lv; rw [show kindOf _ = none from stage_kind w s]]
      exact above_ow c t.val (by have h := t.isLt; have e : cfg0.N = 24 := N_eq; have : t.val < cfg0.N + 1 := h; omega))

/-! ## The run -/

/-- What an array holds after the run. -/
def finalA (c : Dev nD) (w : Fin cfg0.W) : Buf (Elt F) ((cfg0.win w).arr.view.loc (c : Thread nD τ)) := (dats m 0 c).arrAt w cfg0.N

/-- Every array holds that. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the eight devices, from any memory with zero counters, every weakly fair execution of the kernel ends, with every
    array at its computed contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => by
      dsimp only [dats]
      exact (congrArg (ow24 c) N_eq).trans (futOw_end c 3 (le_refl 3)))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds after the run what it held. -/
theorem finalA_in (c : Dev nD) (w : Fin cfg0.W) (hw : (cfg0.win w).isOut = false) : finalA m c w = V m c (Pipeline.arrRef spec0 w) :=
  (dats (F := F) m 0 c).arrAt_in w hw _

end Cert.KernelIdeal.Mlp

end
-- ==== Proof.KernelIdeal.Run.lean ====
/-
  The run of the kernel read at its result and at its arguments.
-/
module

public import proofs.«01_k».proof.Proof.KernelIdeal.Launch

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The last grid point. -/
abbrev tEnd : Fin cfg0.N := pt 2 7

/-- The result array after the run is the block after the last layer. -/
theorem finalA_out (c : Dev nD) : finalA m c 7 = (inp m).xl 3 c := by
  have hz : (fun a => (win0_7.index tEnd) a * main_v1.ty.shape.size a) = fun _ => 0 := funext fun a => by fin_cases a <;> decide
  have hr := fun f => Memref.read_access_unit_zero (Elt F) main_v1 hz (fun a => by fin_cases a <;> decide) f
  have hv : tEnd.val = 23 := rfl
  have ho : ((cfg0.win (7 : Fin 8)).blk tEnd).view.read (Elt F) (finalA m c 7) = (dats (F := F) m 0 c).flushed (7 : Fin 8) tEnd := by
    unfold finalA
    rw [show cfg0.N = tEnd.val + 1 from N_eq, (dats m 0 c).arrAt_succ (7 : Fin 8) tEnd]
    rw [show (cfg0.win (7 : Fin 8)).flush tEnd = true from (flush0_7 tEnd).2 (by rw [hv]), if_pos rfl]
    exact View.read_write_univ _ _
  refine ((hr (finalA m c 7)).symm.trans ho).trans ?_
  show (cfg0.win (7 : Fin 8)).cut _ ((dats (F := F) m 0 c).after 7 tEnd) = _
  dsimp only [dats]
  rfl

/-- From any memory with zero counters the kernel runs to its end on the eight devices; every device's result array ends at
    its block after the last layer, the arguments end unchanged, and every semaphore counter ends at zero. -/
theorem run : θ_run (defs (F := F)) (onTc (τ := τ) (main (F := F))) ⟨m, fun _ => 0, ρ⟩ fun r => (∀ c : Dev nD,
    r.2.mem ((c.tc : Thread nD τ).loc main_v1) = (inp m).xl 3 c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0 :=
  (θ_run defs _ _).mono (fun r h => ⟨fun c => ⟨(h.1 c 7).trans (finalA_out m c), (h.1 c 0).trans (finalA_in m c 0 rfl), (h.1 c 1).trans (finalA_in m c 1 rfl),
    (h.1 c 2).trans (finalA_in m c 2 rfl), (h.1 c 3).trans (finalA_in m c 3 rfl), (h.1 c 4).trans (finalA_in m c 4 rfl),
    (h.1 c 5).trans (finalA_in m c 5 rfl), (h.1 c 6).trans (finalA_in m c 6 rfl)⟩, h.2⟩) (run_main m ρ)

end Cert.KernelIdeal.Mlp

end
-- ==== Proof.KernelIdeal.Values.lean ====
/-
  What a device computes in a layer, over the extended reals.
-/
module

public import proofs.«01_k».proof.Proof.KernelIdeal.Run
public import Idealize.ShloMosaic.Lib.MatmulPlain
public import Idealize.ShloMosaic.Lib.ValueIdx
public import Idealize.ShloMosaic.Lib.StackMember
public import Idealize.ShloMosaic.Lib.Pipeline.ValueKit.Acc

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## Indices -/

/-- Row `r` of block `d`. -/
abbrev row (d : Fin 8) (r : Fin 64) : Fin 512 := ⟨64 * d.val + r.val, by omega⟩
/-- Hidden unit `h` of block `s` of device `j`. -/
abbrev hid (j s : Fin 8) (h : Fin 512) : Fin 32768 := ⟨4096 * j.val + 512 * s.val + h.val, by omega⟩

/-- A sum over the hidden units is the sum over the devices, the blocks of each and the units of each block. -/
theorem sum_hid {M : Type} [AddCommMonoid M] (f : Fin 32768 → M) : ∑ j : Fin 8, ∑ s : Fin 8, ∑ h : Fin 512, f (hid j s h) = ∑ l, f l := by
  let g : ℕ → M := fun n => if hn : n < 32768 then f ⟨n, hn⟩ else 0
  have hg (n : Fin 32768) : g n.val = f n := by simp only [g]; rw [dif_pos n.isLt]
  have e1 (j : Fin 8) : ∑ s : Fin 8, ∑ h : Fin 512, f (hid j s h) = ∑ l : Fin 4096, g (j.val * 4096 + l.val) := by
    rw [← Fin.sum_univ_univ_mul_add 8 512 fun n => g (j.val * 4096 + n)]
    refine Finset.sum_congr rfl fun s _ => Finset.sum_congr rfl fun h _ => ?_
    rw [← hg]
    exact congrArg g (by show 4096 * j.val + 512 * s.val + h.val = _; omega)
  simp only [e1]
  rw [Fin.sum_univ_univ_mul_add 8 4096 g]
  exact Finset.sum_congr rfl fun l _ => hg l

/-- The place of an entry within its slot. -/
theorem slot_ix (c : Fin 8) (r : Fin 64) (n : Fin 2048) :
    (Shape.reshapeEquiv (Shape.Squeezes.numel_eq squeezes_S1x64x2048_S64x2048)).symm (inSlot (ix3 c r n)) = ix2 r n := by
  rw [Equiv.symm_apply_eq]
  symm
  apply Shape.reshapeEquiv_eq_of_rowMajor
  rw [Shape.rowMajor_val_three, Shape.rowMajor_val_two]
  show ((0 * 64 + r.val) * 2048 + n.val) = r.val * 2048 + n.val
  omega

/-- Block `c` of stacked blocks, read in row `r`. -/
theorem gath_apply (xs : Fin 8 → S64x2048.Idx → EReal) (c : Fin 8) (r : Fin 64) (n : Fin 2048) :
    gath (F := Ideal) xs (ix3 c r n) = xs c (ix2 r n) := by
  unfold gath; rw [slot_ix]

/-- An entry of a slot. -/
theorem slc_apply (X : S8x64x2048.Idx → EReal) (c : Fin 8) (r : Fin 64) (n : Fin 2048) :
    slc (F := Ideal) c X (ix2 r n) = X (ix3 c r n) := by
  rw [← gath_apply (fun b => slc (F := Ideal) b X), ← eq_gath (F := Ideal) X (fun b => slc (F := Ideal) b X) fun _ => rfl]

/-- Eight stacked blocks as one matrix. -/
theorem flat_apply {α : Type} (X : S8x64x2048.Idx → α) (h : S8x64x2048.ShapeCasts S512x2048) (d : Fin 8) (r : Fin 64) (n : Fin 2048) :
    shapeCast S512x2048 X h (ix2 (row d r) n) = X (ix3 d r n) := by
  refine shapeCast_apply X h _ _ ?_
  rw [Shape.rowMajor_val_three, Shape.rowMajor_val_two]
  show (d.val * 64 + r.val) * 2048 + n.val = (64 * d.val + r.val) * 2048 + n.val
  omega

/-- One matrix as eight stacked blocks. -/
theorem stack_apply {α : Type} (X : S512x2048.Idx → α) (h : S512x2048.ShapeCasts S8x64x2048) (d : Fin 8) (r : Fin 64) (n : Fin 2048) :
    shapeCast S8x64x2048 X h (ix3 d r n) = X (ix2 (row d r) n) := by
  refine shapeCast_apply X h _ _ ?_
  rw [Shape.rowMajor_val_three, Shape.rowMajor_val_two]
  show (64 * d.val + r.val) * 2048 + n.val = (d.val * 64 + r.val) * 2048 + n.val
  omega

/-! ## One layer -/

/-- The first product is a plain one. -/
theorem dot_in : dot_S512x2048_S2048x512_S512x512_1_0_0_1_n_n = DotDims.plain 512 2048 512 := rfl
/-- The second product is a plain one. -/
theorem dot_out : dot_S512x512_S512x2048_S512x2048_1_0_0_1_n_n = DotDims.plain 512 512 2048 := rfl

/-- One block's contribution: the hidden units of the block, cut off below zero, through the second matrix. -/
theorem pay2_apply (X : S8x64x2048.Idx → EReal) (A : S2048x512.Idx → EReal) (B : S512x2048.Idx → EReal) (d : Fin 8) (r : Fin 64) (n : Fin 2048) :
    k0_pay2 (F := Ideal) X A B (ix2 (row d r) n) = ∑ h : Fin 512, max (∑ i : Fin 2048, X (ix3 d r i) * A (ix2 i h)) 0 * B (ix2 h n) := by
  unfold k0_pay2
  simp only [matmul, shapeCast_self]
  rw [dot_in, dot_out, Ideal.matmul_plain_apply]
  rw [show (constant (F := Ideal) S512x2048 .f32 0x00000000#32 : FVec Ideal S512x2048 .f32) (ix2 (row d r) n) = 0 from Ideal.ofBits_zero_f32, zero_add]
  refine Finset.sum_congr rfl fun h _ => ?_
  congr 1
  rw [truncf_apply, maximumf_apply, Ideal.matmul_plain_apply]
  rw [show (constant (F := Ideal) S512x512 .f32 0x00000000#32 : FVec Ideal S512x512 .f32) (ix2 (row d r) h) = 0 from Ideal.ofBits_zero_f32, zero_add]
  congr 1
  · exact Finset.sum_congr rfl fun i _ => congrArg (· * A (ix2 i h)) (flat_apply X _ d r i)
  · exact Ideal.ofBits_zero_f32

variable (I : Inp Ideal)

/-- The contribution of block `s` of device `j` in layer `l`, for a row `x`. -/
def part (l : ℕ) (x : Fin 2048 → EReal) (n : Fin 2048) (j : Fin 8) (s : ℕ) : EReal :=
  ∑ h : Fin 512, max (∑ i : Fin 2048, x i * I.w1 l s j (ix2 i h)) 0 * I.w2 l s j (ix2 h n)

/-- The sum after `k + 1` blocks. -/
theorem accOf_apply (X : S8x64x2048.Idx → EReal) (l : ℕ) (j : Fin 8) (d : Fin 8) (r : Fin 64) (n : Fin 2048) (k : ℕ) :
    I.accOf X l j k (ix2 (row d r) n) = ∑ s ∈ Finset.range (k + 1), part I l (fun i => X (ix3 d r i)) n j s := by
  induction k with
  | zero =>
    rw [Finset.sum_range_one]
    show k0_pay3 (F := Ideal) _ _ _ _ = _
    unfold k0_pay3
    rw [shapeCast_self]
    exact pay2_apply _ _ _ d r n
  | succ k ih =>
    rw [Finset.sum_range_succ, ← ih]
    show k0_pay4 (F := Ideal) _ _ _ _ _ = _
    unfold k0_pay4
    rw [shapeCast_self, addf_apply]
    exact congrArg (_ + ·) (pay2_apply _ _ _ d r n)

/-- The partial sum of a device: all eight blocks. -/
theorem parOf_apply (X : S8x64x2048.Idx → EReal) (l : ℕ) (j : Fin 8) (d : Fin 8) (r : Fin 64) (n : Fin 2048) :
    I.parOf X l j (ix3 d r n) = ∑ s : Fin 8, part I l (fun i => X (ix3 d r i)) n j s.val := by
  rw [Fin.sum_univ_eq_sum_range (fun s => part I l (fun i => X (ix3 d r i)) n j s), Finset.sum_range_succ, ← accOf_apply]
  show k0_pay5 (F := Ideal) _ _ _ _ _ = _
  unfold k0_pay5
  rw [shapeCast_self, truncf_apply, stack_apply, addf_apply]
  exact congrArg (_ + ·) (pay2_apply _ _ _ d r n)

/-- The sum of the eight partial products. -/
theorem sumOf_apply (P : Dev nD → S8x64x2048.Idx → EReal) (c : Dev nD) (r : Fin 64) (n : Fin 2048) :
    Inp.sumOf (F := Ideal) P c (ix2 r n) = ∑ j : Fin 8, P j (ix3 c r n) := by
  have hw (b : Fin 8) (h : S1x64x2048.ShapeCasts S64x2048) :
      shapeCast S64x2048 (win (F := Ideal) b (gath (F := Ideal) fun d => slc (F := Ideal) c (P d))) h (ix2 r n) = P b (ix3 c r n) :=
    (congrFun (slc_gath (F := Ideal) (fun d => slc (F := Ideal) c (P d)) b) (ix2 r n)).trans (slc_apply (P b) c r n)
  unfold Inp.sumOf k0_pay14 k0_pay18 k0_pay19
  simp only [shapeCast_self, addf_apply, extf_apply, hw]
  simp only [Fin.sum_univ_succ, Fin.sum_univ_zero]
  simp only [add_assoc, add_zero]
  rfl

/-- The block of a device after a layer, row by row. -/
theorem xl_next (l : ℕ) (c : Dev nD) (r : Fin 64) (n : Fin 2048) :
    I.xl (l + 1) c (ix2 r n) = ∑ j : Fin 8, ∑ s : Fin 8, part I l (fun i => I.xl l c (ix2 r i)) n j s.val := by
  show Inp.sumOf (F := Ideal) _ c (ix2 r n) = _
  rw [sumOf_apply]
  refine Finset.sum_congr rfl fun j _ => ?_
  rw [parOf_apply]
  have hx : (fun i => Inp.gat (F := Ideal) (I.xl l) (ix3 c r i)) = fun i => I.xl l c (ix2 r i) := by
    funext i
    unfold Inp.gat
    rw [gath_apply]
    unfold k0_pay16 sq
    exact congrFun (shapeCast_shapeCast (truncf (F := Ideal) .bf16 (I.xl l c) bitsLt_bf16_f32) shapeCasts_S64x2048_S1x64x2048 shapeCasts_S1x64x2048_S64x2048) (ix2 r i)
  rw [hx]

end Cert.KernelIdeal.Mlp

end
-- ==== Proof.KernelIdeal.Result.lean ====
/-
  The kernel over the eight devices against the reference, over the extended reals.
-/
module

public import proofs.«01_k».proof.Proof.KernelIdeal.Values
public import proofs.«01_k».proof.Proof.Gen.ReferenceIdeal.Run

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## One layer of the reference -/

/-- A layer of the reference. -/
def refL (X : S512x2048.Idx → EReal) (A : Cert.ReferenceIdeal.S2048x32768.Idx → EReal) (B : Cert.ReferenceIdeal.S32768x2048.Idx → EReal) :
    S512x2048.Idx → EReal :=
  Host.dotGeneral (F := Ideal) (φ₁ := .f32) (φ₂ := .bf16) Cert.ReferenceIdeal.dot_S512x32768_S32768x2048_S512x2048_1_0_0_1_n_n none
    (maximumf (F := Ideal) (φ := .f32) (Host.dotGeneral (F := Ideal) (φ₁ := .f32) (φ₂ := .bf16) Cert.ReferenceIdeal.dot_S512x2048_S2048x32768_S512x32768_1_0_0_1_n_n none X A)
      (broadcastInDim Cert.ReferenceIdeal.S512x32768 ![] Cert.ReferenceIdeal.Facts₀.bcast_S_S512x32768 (constant (F := Ideal) Cert.ReferenceIdeal.S_ .f32 0x00000000#32))) B

/-- The reference's first product is a plain one. -/
theorem ref_in : Cert.ReferenceIdeal.dot_S512x2048_S2048x32768_S512x32768_1_0_0_1_n_n = DotDims.plain 512 2048 32768 := rfl
/-- Its second product is a plain one. -/
theorem ref_out : Cert.ReferenceIdeal.dot_S512x32768_S32768x2048_S512x2048_1_0_0_1_n_n = DotDims.plain 512 32768 2048 := rfl

/-- An entry of a layer of the reference: a sum over all hidden units. -/
theorem refL_apply (X : S512x2048.Idx → EReal) (A : Cert.ReferenceIdeal.S2048x32768.Idx → EReal) (B : Cert.ReferenceIdeal.S32768x2048.Idx → EReal)
    (R : Fin 512) (n : Fin 2048) :
    refL X A B (ix2 R n) = ∑ l : Fin 32768, max (∑ i : Fin 2048, X (ix2 R i) * A (ix2 i l)) 0 * B (ix2 l n) := by
  unfold refL
  rw [ref_in, ref_out, StackMember.dotGeneral_plain_apply]
  refine Finset.sum_congr rfl fun l _ => ?_
  congr 1
  rw [maximumf_apply, StackMember.dotGeneral_plain_apply]
  congr 1
  exact Ideal.ofBits_zero_f32

/-- A layer of the kernel is a layer of the reference where its inputs are the blocks of the reference's. -/
theorem layer_eq (I : Inp Ideal) (l : ℕ) (X : S512x2048.Idx → EReal) (A : Cert.ReferenceIdeal.S2048x32768.Idx → EReal) (B : Cert.ReferenceIdeal.S32768x2048.Idx → EReal)
    (hX : ∀ (c : Dev nD) (r : Fin 64) (i : Fin 2048), I.xl l c (ix2 r i) = X (ix2 (row c r) i))
    (hA : ∀ (j : Dev nD) (s : Fin 8) (i : Fin 2048) (h : Fin 512), I.w1 l s.val j (ix2 i h) = A (ix2 i (hid j s h)))
    (hB : ∀ (j : Dev nD) (s : Fin 8) (h : Fin 512) (n : Fin 2048), I.w2 l s.val j (ix2 h n) = B (ix2 (hid j s h) n))
    (c : Dev nD) (r : Fin 64) (n : Fin 2048) : I.xl (l + 1) c (ix2 r n) = refL X A B (ix2 (row c r) n) := by
  rw [xl_next, refL_apply, ← sum_hid fun u => max (∑ i : Fin 2048, X (ix2 (row c r) i) * A (ix2 i u)) 0 * B (ix2 u n)]
  refine Finset.sum_congr rfl fun j _ => Finset.sum_congr rfl fun s _ => ?_
  unfold part
  simp only [hX, hA, hB]

/-! ## The kernel's inputs are blocks of its arguments, and those of the reference's -/

variable (m : (ℓ : Loc nD τ sig) → Buf (Elt Ideal) ℓ)

/-- Which block window 1 shows at each block of its layer. -/
theorem ix_1 : ∀ k : Fin 8, win0_1.index (pt 0 k.val) 0 = 0 ∧ win0_1.index (pt 0 k.val) 1 = k.val := by decide +kernel
/-- Which block window 2 shows at each block of its layer. -/
theorem ix_2 : ∀ k : Fin 8, win0_2.index (pt 0 k.val) 0 = k.val ∧ win0_2.index (pt 0 k.val) 1 = 0 := by decide +kernel
/-- Which block window 3 shows at each block of its layer. -/
theorem ix_3 : ∀ k : Fin 8, win0_3.index (pt 1 k.val) 0 = 0 ∧ win0_3.index (pt 1 k.val) 1 = k.val := by decide +kernel
/-- Which block window 4 shows at each block of its layer. -/
theorem ix_4 : ∀ k : Fin 8, win0_4.index (pt 1 k.val) 0 = k.val ∧ win0_4.index (pt 1 k.val) 1 = 0 := by decide +kernel
/-- Which block window 5 shows at each block of its layer. -/
theorem ix_5 : ∀ k : Fin 8, win0_5.index (pt 2 k.val) 0 = 0 ∧ win0_5.index (pt 2 k.val) 1 = k.val := by decide +kernel
/-- Which block window 6 shows at each block of its layer. -/
theorem ix_6 : ∀ k : Fin 8, win0_6.index (pt 2 k.val) 0 = k.val ∧ win0_6.index (pt 2 k.val) 1 = 0 := by decide +kernel
/-- The window of `x` shows the whole of it. -/
theorem ix_0 : win0_0.index (pt 0 0) 0 = 0 ∧ win0_0.index (pt 0 0) 1 = 0 := by decide +kernel

/-- The kernel's `x` is the argument. -/
theorem x0_apply (c : Dev nD) (r : Fin 64) (i : Fin 2048) : (inp m).x0 c (ix2 r i) = m ((c : Thread nD τ).loc main_arg0) (ix2 r i) := by
  show m ((c : Thread nD τ).loc main_arg0) (((cfg0.win 0).blk (pt 0 0)).view.emb (ix2 r i)) = _
  refine congrArg (m ((c : Thread nD τ).loc main_arg0)) (funext fun a => Fin.ext ?_)
  match a with
  | ⟨0, _⟩ =>
    show win0_0.index (pt 0 0) 0 * 64 + 1 * r.val = r.val
    rw [ix_0.1]; omega
  | ⟨1, _⟩ =>
    show win0_0.index (pt 0 0) 1 * 2048 + 1 * i.val = i.val
    rw [ix_0.2]; omega

/-- A block of the first matrix of layer 0 is a block of columns of the argument. -/
theorem w1_0 (c : Dev nD) (k : Fin 8) (i : Fin 2048) (h : Fin 512) :
    (inp m).w1 0 k.val c (ix2 i h) = m ((c : Thread nD τ).loc main_arg1) (ix2 i (⟨512 * k.val + h.val, by omega⟩ : Fin 4096)) := by
  show m ((c : Thread nD τ).loc main_arg1) (((cfg0.win 1).blk (pt 0 k.val)).view.emb (ix2 i h)) = _
  refine congrArg (m ((c : Thread nD τ).loc main_arg1)) (funext fun a => Fin.ext ?_)
  match a with
  | ⟨0, _⟩ =>
    show win0_1.index (pt 0 k.val) 0 * 2048 + 1 * i.val = i.val
    rw [(ix_1 k).1]; omega
  | ⟨1, _⟩ =>
    show win0_1.index (pt 0 k.val) 1 * 512 + 1 * h.val = 512 * k.val + h.val
    rw [(ix_1 k).2]; omega

/-- A block of the second matrix of layer 0 is a block of rows of the argument. -/
theorem w2_0 (c : Dev nD) (k : Fin 8) (h : Fin 512) (n : Fin 2048) :
    (inp m).w2 0 k.val c (ix2 h n) = m ((c : Thread nD τ).loc main_arg2) (ix2 (⟨512 * k.val + h.val, by omega⟩ : Fin 4096) n) := by
  show m ((c : Thread nD τ).loc main_arg2) (((cfg0.win 2).blk (pt 0 k.val)).view.emb (ix2 h n)) = _
  refine congrArg (m ((c : Thread nD τ).loc main_arg2)) (funext fun a => Fin.ext ?_)
  match a with
  | ⟨0, _⟩ =>
    show win0_2.index (pt 0 k.val) 0 * 512 + 1 * h.val = 512 * k.val + h.val
    rw [(ix_2 k).1]; omega
  | ⟨1, _⟩ =>
    show win0_2.index (pt 0 k.val) 1 * 2048 + 1 * n.val = n.val
    rw [(ix_2 k).2]; omega

/-- A block of the first matrix of layer 1 is a block of columns of the argument. -/
theorem w1_1 (c : Dev nD) (k : Fin 8) (i : Fin 2048) (h : Fin 512) :
    (inp m).w1 1 k.val c (ix2 i h) = m ((c : Thread nD τ).loc main_arg3) (ix2 i (⟨512 * k.val + h.val, by omega⟩ : Fin 4096)) := by
  show m ((c : Thread nD τ).loc main_arg3) (((cfg0.win 3).blk (pt 1 k.val)).view.emb (ix2 i h)) = _
  refine congrArg (m ((c : Thread nD τ).loc main_arg3)) (funext fun a => Fin.ext ?_)
  match a with
  | ⟨0, _⟩ =>
    show win0_3.index (pt 1 k.val) 0 * 2048 + 1 * i.val = i.val
    rw [(ix_3 k).1]; omega
  | ⟨1, _⟩ =>
    show win0_3.index (pt 1 k.val) 1 * 512 + 1 * h.val = 512 * k.val + h.val
    rw [(ix_3 k).2]; omega

/-- A block of the second matrix of layer 1 is a block of rows of the argument. -/
theorem w2_1 (c : Dev nD) (k : Fin 8) (h : Fin 512) (n : Fin 2048) :
    (inp m).w2 1 k.val c (ix2 h n) = m ((c : Thread nD τ).loc main_arg4) (ix2 (⟨512 * k.val + h.val, by omega⟩ : Fin 4096) n) := by
  show m ((c : Thread nD τ).loc main_arg4) (((cfg0.win 4).blk (pt 1 k.val)).view.emb (ix2 h n)) = _
  refine congrArg (m ((c : Thread nD τ).loc main_arg4)) (funext fun a => Fin.ext ?_)
  match a with
  | ⟨0, _⟩ =>
    show win0_4.index (pt 1 k.val) 0 * 512 + 1 * h.val = 512 * k.val + h.val
    rw [(ix_4 k).1]; omega
  | ⟨1, _⟩ =>
    show win0_4.index (pt 1 k.val) 1 * 2048 + 1 * n.val = n.val
    rw [(ix_4 k).2]; omega

/-- A block of the first matrix of layer 2 is a block of columns of the argument. -/
theorem w1_2 (c : Dev nD) (k : Fin 8) (i : Fin 2048) (h : Fin 512) :
    (inp m).w1 2 k.val c (ix2 i h) = m ((c : Thread nD τ).loc main_arg5) (ix2 i (⟨512 * k.val + h.val, by omega⟩ : Fin 4096)) := by
  show m ((c : Thread nD τ).loc main_arg5) (((cfg0.win 5).blk (pt 2 k.val)).view.emb (ix2 i h)) = _
  refine congrArg (m ((c : Thread nD τ).loc main_arg5)) (funext fun a => Fin.ext ?_)
  match a with
  | ⟨0, _⟩ =>
    show win0_5.index (pt 2 k.val) 0 * 2048 + 1 * i.val = i.val
    rw [(ix_5 k).1]; omega
  | ⟨1, _⟩ =>
    show win0_5.index (pt 2 k.val) 1 * 512 + 1 * h.val = 512 * k.val + h.val
    rw [(ix_5 k).2]; omega

/-- A block of the second matrix of layer 2 is a block of rows of the argument. -/
theorem w2_2 (c : Dev nD) (k : Fin 8) (h : Fin 512) (n : Fin 2048) :
    (inp m).w2 2 k.val c (ix2 h n) = m ((c : Thread nD τ).loc main_arg6) (ix2 (⟨512 * k.val + h.val, by omega⟩ : Fin 4096) n) := by
  show m ((c : Thread nD τ).loc main_arg6) (((cfg0.win 6).blk (pt 2 k.val)).view.emb (ix2 h n)) = _
  refine congrArg (m ((c : Thread nD τ).loc main_arg6)) (funext fun a => Fin.ext ?_)
  match a with
  | ⟨0, _⟩ =>
    show win0_6.index (pt 2 k.val) 0 * 512 + 1 * h.val = 512 * k.val + h.val
    rw [(ix_6 k).1]; omega
  | ⟨1, _⟩ =>
    show win0_6.index (pt 2 k.val) 1 * 2048 + 1 * n.val = n.val
    rw [(ix_6 k).2]; omega

/-- A block of rows of `x`, of the result. -/
theorem rows_apply (v : S512x2048.Idx → EReal) (c : Fin 8) (r : Fin 64) (i : Fin 2048) :
    Layout.block ⟨2, ![64, 2048]⟩ ⟨2, ![512, 2048]⟩ 0 8 c v (by decide) (ix2 r i) = v (ix2 (row c r) i) := by
  refine congrArg v (funext fun a => Fin.ext ?_)
  match a with
  | ⟨0, _⟩ => show c.val * 64 + r.val = 64 * c.val + r.val; omega
  | ⟨1, _⟩ => rfl

/-- A block of columns of a first matrix. -/
theorem cols_apply (v : Cert.ReferenceIdeal.S2048x32768.Idx → EReal) (c k : Fin 8) (i : Fin 2048) (h : Fin 512) :
    Layout.block ⟨2, ![2048, 4096]⟩ ⟨2, ![2048, 32768]⟩ 1 8 c v (by decide) (ix2 i (⟨512 * k.val + h.val, by omega⟩ : Fin 4096)) = v (ix2 i (hid c k h)) := by
  refine congrArg v (funext fun a => Fin.ext ?_)
  match a with
  | ⟨0, _⟩ => rfl
  | ⟨1, _⟩ => show c.val * 4096 + (512 * k.val + h.val) = 4096 * c.val + 512 * k.val + h.val; omega

/-- A block of rows of a second matrix. -/
theorem hids_apply (v : Cert.ReferenceIdeal.S32768x2048.Idx → EReal) (c k : Fin 8) (h : Fin 512) (n : Fin 2048) :
    Layout.block ⟨2, ![4096, 2048]⟩ ⟨2, ![32768, 2048]⟩ 0 8 c v (by decide) (ix2 (⟨512 * k.val + h.val, by omega⟩ : Fin 4096) n) = v (ix2 (hid c k h) n) := by
  refine congrArg v (funext fun a => Fin.ext ?_)
  match a with
  | ⟨0, _⟩ => show c.val * 4096 + (512 * k.val + h.val) = 4096 * c.val + 512 * k.val + h.val; omega
  | ⟨1, _⟩ => rfl

/-! ## The result -/

/-- The reference's result from its arguments. -/
def refOut (x : S512x2048.Idx → EReal) (A0 : Cert.ReferenceIdeal.S2048x32768.Idx → EReal) (B0 : Cert.ReferenceIdeal.S32768x2048.Idx → EReal)
    (A1 : Cert.ReferenceIdeal.S2048x32768.Idx → EReal) (B1 : Cert.ReferenceIdeal.S32768x2048.Idx → EReal)
    (A2 : Cert.ReferenceIdeal.S2048x32768.Idx → EReal) (B2 : Cert.ReferenceIdeal.S32768x2048.Idx → EReal) : S512x2048.Idx → EReal :=
  refL (refL (refL x A0 B0) A1 B1) A2 B2

/-- Where every device's arguments are its blocks, its block after the last layer is its block of the reference's result. -/
theorem result_eq (x : S512x2048.Idx → EReal) (A0 : Cert.ReferenceIdeal.S2048x32768.Idx → EReal) (B0 : Cert.ReferenceIdeal.S32768x2048.Idx → EReal)
    (A1 : Cert.ReferenceIdeal.S2048x32768.Idx → EReal) (B1 : Cert.ReferenceIdeal.S32768x2048.Idx → EReal)
    (A2 : Cert.ReferenceIdeal.S2048x32768.Idx → EReal) (B2 : Cert.ReferenceIdeal.S32768x2048.Idx → EReal)
    (hx : ∀ c : Dev nD, m ((c : Thread nD τ).loc main_arg0) = Layout.block ⟨2, ![64, 2048]⟩ ⟨2, ![512, 2048]⟩ 0 8 c x (by decide))
    (hA0 : ∀ c : Dev nD, m ((c : Thread nD τ).loc main_arg1) = Layout.block ⟨2, ![2048, 4096]⟩ ⟨2, ![2048, 32768]⟩ 1 8 c A0 (by decide))
    (hB0 : ∀ c : Dev nD, m ((c : Thread nD τ).loc main_arg2) = Layout.block ⟨2, ![4096, 2048]⟩ ⟨2, ![32768, 2048]⟩ 0 8 c B0 (by decide))
    (hA1 : ∀ c : Dev nD, m ((c : Thread nD τ).loc main_arg3) = Layout.block ⟨2, ![2048, 4096]⟩ ⟨2, ![2048, 32768]⟩ 1 8 c A1 (by decide))
    (hB1 : ∀ c : Dev nD, m ((c : Thread nD τ).loc main_arg4) = Layout.block ⟨2, ![4096, 2048]⟩ ⟨2, ![32768, 2048]⟩ 0 8 c B1 (by decide))
    (hA2 : ∀ c : Dev nD, m ((c : Thread nD τ).loc main_arg5) = Layout.block ⟨2, ![2048, 4096]⟩ ⟨2, ![2048, 32768]⟩ 1 8 c A2 (by decide))
    (hB2 : ∀ c : Dev nD, m ((c : Thread nD τ).loc main_arg6) = Layout.block ⟨2, ![4096, 2048]⟩ ⟨2, ![32768, 2048]⟩ 0 8 c B2 (by decide))
    (c : Dev nD) : (inp m).xl 3 c = Layout.block ⟨2, ![64, 2048]⟩ ⟨2, ![512, 2048]⟩ 0 8 c (refOut x A0 B0 A1 B1 A2 B2) (by decide) := by
  have h0 (c : Dev nD) (r : Fin 64) (i : Fin 2048) : (inp m).xl 0 c (ix2 r i) = x (ix2 (row c r) i) := by
    show k0_pay1 (F := Ideal) (k0_pay15 (F := Ideal) ((inp m).x0 c)) (ix2 r i) = _
    unfold k0_pay1 k0_pay15
    rw [shapeCast_self, shapeCast_self, x0_apply, hx]
    exact rows_apply x c r i
  have h1 := layer_eq (inp m) 0 x A0 B0 h0 (fun j s i h => by rw [w1_0, hA0]; exact cols_apply A0 j s i h)
    (fun j s h n => by rw [w2_0, hB0]; exact hids_apply B0 j s h n)
  have h2 := layer_eq (inp m) 1 _ A1 B1 h1 (fun j s i h => by rw [w1_1, hA1]; exact cols_apply A1 j s i h)
    (fun j s h n => by rw [w2_1, hB1]; exact hids_apply B1 j s h n)
  have h3 := layer_eq (inp m) 2 _ A2 B2 h2 (fun j s i h => by rw [w1_2, hA2]; exact cols_apply A2 j s i h)
    (fun j s h n => by rw [w2_2, hB2]; exact hids_apply B2 j s h n)
  funext y
  rw [eq_ix2 y]
  exact (h3 c (y 0) (y 1)).trans (rows_apply _ c (y 0) (y 1)).symm

end Cert.KernelIdeal.Mlp

end
-- ==== Proof.lean ====
/-
  The claims: the kernel and its exact reading run on the eight devices and leave their arguments and every semaphore as they
  were, and so does the reference; and over the extended reals each device ends with its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Result
public import Idealize.ShloMosaic.Adequacy
public import Idealize.ShloMosaic.Init

@[expose] public section

noncomputable section

namespace Cert.Proof

open Idealize.ShloMosaic Idealize.SL.Sem

/-- The kernel at the machine's own formats. -/
theorem frame_kernel : Cert.quiescent_Kernel := fun m ρ _ =>
  (θ_run Cert.Kernel.defs _ _).mono (fun _ h => ⟨fun c => (h.1 c).2, h.2⟩) (Cert.Kernel.Mlp.run (F := Bits) m ρ)

/-- The kernel read exactly. -/
theorem frame_ideal : Cert.quiescent_KernelIdeal := fun m ρ _ =>
  (θ_run Cert.KernelIdeal.defs _ _).mono (fun _ h => ⟨fun c => (h.1 c).2, h.2⟩) (Cert.KernelIdeal.Mlp.run (F := Ideal) m ρ)

/-- The reference read exactly: it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Nothing was rewritten between the kernel and its exact reading. -/
theorem preserves : Cert.preserves_Kernel_KernelIdeal := trivial

/-- The kernel against the reference over the extended reals: where every device's arguments are its blocks of the reference's,
its result is its block of rows of the reference's result. -/
theorem algebraic : Cert.algebraic_KernelIdeal_ReferenceIdeal := by
  intro m g m' g' _ hag
  refine ⟨Cert.KernelIdeal.Mlp.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun _ h c => ⟨?_, (h.1 c).2⟩) (Cert.KernelIdeal.Mlp.run (F := Ideal) m g)
    exact (h.1 c).1.trans (Cert.KernelIdeal.Mlp.result_eq m _ _ _ _ _ _ _ (fun c => (hag c).1) (fun c => (hag c).2.1)
      (fun c => (hag c).2.2.1) (fun c => (hag c).2.2.2.1) (fun c => (hag c).2.2.2.2.1) (fun c => (hag c).2.2.2.2.2.1)
      (fun c => (hag c).2.2.2.2.2.2) c)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, preserves, algebraic⟩

end Cert.Proof

end
